-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x50000 : Shape := ⟨2, ![4, 50000]⟩
abbrev S4x3x64x50000 : Shape := ⟨4, ![4, 3, 64, 50000]⟩
abbrev S4x3x1x50000 : Shape := ⟨4, ![4, 3, 1, 50000]⟩
abbrev S4x3x50000 : Shape := ⟨3, ![4, 3, 50000]⟩
abbrev S64x400 : Shape := ⟨2, ![64, 400]⟩
abbrev S400 : Shape := ⟨1, ![400]⟩
abbrev S_ : Shape := ⟨0, ![]⟩
abbrev S1x1x64x400 : Shape := ⟨4, ![1, 1, 64, 400]⟩
abbrev S1x400 : Shape := ⟨2, ![1, 400]⟩
abbrev S16 : Shape := ⟨1, ![16]⟩
abbrev S1x16 : Shape := ⟨2, ![1, 16]⟩
abbrev S1x1x1x400 : Shape := ⟨4, ![1, 1, 1, 400]⟩
abbrev S1x1x400 : Shape := ⟨3, ![1, 1, 400]⟩

abbrev nBuf : Table → Nat
  | .hbm => 4
  | .local .scVector .vmem => 4
  | _ => 0

abbrev bufTy : (tb : Table) → Fin (nBuf tb) → BufTy
  | .hbm, ⟨0, _⟩ => ⟨S4x50000, .f32⟩
  | .hbm, ⟨1, _⟩ => ⟨S4x3x64x50000, .f32⟩
  | .hbm, ⟨2, _⟩ => ⟨S4x3x1x50000, .f32⟩
  | .hbm, ⟨3, _⟩ => ⟨S4x3x50000, .i32⟩
  | .local .scVector .vmem, ⟨0, _⟩ => ⟨S64x400, .f32⟩
  | .local .scVector .vmem, ⟨1, _⟩ => ⟨S400, .f32⟩
  | .local .scVector .vmem, ⟨2, _⟩ => ⟨S400, .f32⟩
  | .local .scVector .vmem, ⟨3, _⟩ => ⟨S400, .i32⟩
  | _, _ => ⟨S4x50000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c47_i32 : BitVec 32 := 47#32
  let v2 : BitVec 32 := Scalar.addi c0_i32_0 c47_i32
  let c1_i32 : BitVec 32 := 1#32
  ⟨c0_i32_0, v2, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg10 : BitVec 32 := Scf.iv c0_i32_0 c1_i32 k0_t1
  let c32_i32 : BitVec 32 := 32#32
  let v3 : BitVec 32 := Scalar.muli arg10 c32_i32
  let v4 : BitVec 32 := Scalar.addi v1 v3
  let c1500_i32 : BitVec 32 := 1500#32
  let v5 : BitVec 1 := Scalar.cmpi .slt v4 c1500_i32
  let v6 : BitVec 32 := Scalar.extui v5
  let c0_i32_2 : BitVec 32 := 0#32
  let v7 : BitVec 1 := Scalar.cmpi .ne v6 c0_i32_2
  v7

def k0_off1 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg10 : BitVec 32 := Scf.iv c0_i32_0 c1_i32 k0_t1
  let c32_i32 : BitVec 32 := 32#32
  let v3 : BitVec 32 := Scalar.muli arg10 c32_i32
  let v4 : BitVec 32 := Scalar.addi v1 v3
  let c0_i32_3 : BitVec 32 := 0#32
  let v9 : BitVec 1 := Scalar.cmpi .sgt v4 c0_i32_3
  let v10 : BitVec 32 := Scalar.extui v9
  let c0_i32_4 : BitVec 32 := 0#32
  let v11 : BitVec 1 := Scalar.cmpi .slt v4 c0_i32_4
  let v12 : BitVec 32 := Scalar.extui v11
  let v13 : BitVec 32 := Scalar.subi v10 v12
  let c125_i32 : BitVec 32 := 125#32
  let c0_i32_5 : BitVec 32 := 0#32
  let v14 : BitVec 1 := Scalar.cmpi .sgt c125_i32 c0_i32_5
  let v15 : BitVec 32 := Scalar.extui v14
  let c0_i32_6 : BitVec 32 := 0#32
  let v16 : BitVec 1 := Scalar.cmpi .slt c125_i32 c0_i32_6
  let v17 : BitVec 32 := Scalar.extui v16
  let v18 : BitVec 32 := Scalar.subi v15 v17
  let v19 : BitVec 1 := Scalar.cmpi .ne v13 v18
  let v20 : BitVec 32 := Scalar.remsi v4 c125_i32
  let c0_i32_7 : BitVec 32 := 0#32
  let v21 : BitVec 1 := Scalar.cmpi .ne v20 c0_i32_7
  let v22 : BitVec 1 := Scalar.andi v19 v21
  let v8 : BitVec 32 := Scalar.divsi v4 c125_i32
  let c1_i32_8 : BitVec 32 := 1#32
  let v23 : BitVec 32 := Scalar.subi v8 c1_i32_8
  let v24 : BitVec 32 := Scalar.select v22 v23 v8
  let c0_i32_10 : BitVec 32 := 0#32
  let v28 : BitVec 1 := Scalar.cmpi .sgt v24 c0_i32_10
  let v29 : BitVec 32 := Scalar.extui v28
  let c0_i32_11 : BitVec 32 := 0#32
  let v30 : BitVec 1 := Scalar.cmpi .slt v24 c0_i32_11
  let v31 : BitVec 32 := Scalar.extui v30
  let v32 : BitVec 32 := Scalar.subi v29 v31
  let c3_i32 : BitVec 32 := 3#32
  let c0_i32_12 : BitVec 32 := 0#32
  let v33 : BitVec 1 := Scalar.cmpi .sgt c3_i32 c0_i32_12
  let v34 : BitVec 32 := Scalar.extui v33
  let c0_i32_13 : BitVec 32 := 0#32
  let v35 : BitVec 1 := Scalar.cmpi .slt c3_i32 c0_i32_13
  let v36 : BitVec 32 := Scalar.extui v35
  let v37 : BitVec 32 := Scalar.subi v34 v36
  let v38 : BitVec 1 := Scalar.cmpi .ne v32 v37
  let v39 : BitVec 32 := Scalar.remsi v24 c3_i32
  let c0_i32_14 : BitVec 32 := 0#32
  let v40 : BitVec 1 := Scalar.cmpi .ne v39 c0_i32_14
  let v41 : BitVec 1 := Scalar.andi v38 v40
  let v27 : BitVec 32 := Scalar.divsi v24 c3_i32
  let c1_i32_15 : BitVec 32 := 1#32
  let v42 : BitVec 32 := Scalar.subi v27 c1_i32_15
  let v43 : BitVec 32 := Scalar.select v41 v42 v27
  let c3_i32_16 : BitVec 32 := 3#32
  let v44 : BitVec 32 := Scalar.muli v43 c3_i32_16
  let v45 : BitVec 32 := Scalar.subi v24 v44
  let c0_i32_22_r0 : BitVec 32 := 0#32
  let c125_i32_9 : BitVec 32 := 125#32
  let v25 : BitVec 32 := Scalar.muli v24 c125_i32_9
  let v26 : BitVec 32 := Scalar.subi v4 v25
  let c400_i32 : BitVec 32 := 400#32
  let v46 : BitVec 32 := Scalar.muli v26 c400_i32
  ![v43.toNat, v45.toNat, 0, v46.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg10 : BitVec 32 := Scf.iv c0_i32_0 c1_i32 k0_t1
  let c32_i32 : BitVec 32 := 32#32
  let v3 : BitVec 32 := Scalar.muli arg10 c32_i32
  let v4 : BitVec 32 := Scalar.addi v1 v3
  let c0_i32_3 : BitVec 32 := 0#32
  let v9 : BitVec 1 := Scalar.cmpi .sgt v4 c0_i32_3
  let v10 : BitVec 32 := Scalar.extui v9
  let c0_i32_4 : BitVec 32 := 0#32
  let v11 : BitVec 1 := Scalar.cmpi .slt v4 c0_i32_4
  let v12 : BitVec 32 := Scalar.extui v11
  let v13 : BitVec 32 := Scalar.subi v10 v12
  let c125_i32 : BitVec 32 := 125#32
  let c0_i32_5 : BitVec 32 := 0#32
  let v14 : BitVec 1 := Scalar.cmpi .sgt c125_i32 c0_i32_5
  let v15 : BitVec 32 := Scalar.extui v14
  let c0_i32_6 : BitVec 32 := 0#32
  let v16 : BitVec 1 := Scalar.cmpi .slt c125_i32 c0_i32_6
  let v17 : BitVec 32 := Scalar.extui v16
  let v18 : BitVec 32 := Scalar.subi v15 v17
  let v19 : BitVec 1 := Scalar.cmpi .ne v13 v18
  let v20 : BitVec 32 := Scalar.remsi v4 c125_i32
  let c0_i32_7 : BitVec 32 := 0#32
  let v21 : BitVec 1 := Scalar.cmpi .ne v20 c0_i32_7
  let v22 : BitVec 1 := Scalar.andi v19 v21
  let v8 : BitVec 32 := Scalar.divsi v4 c125_i32
  let c1_i32_8 : BitVec 32 := 1#32
  let v23 : BitVec 32 := Scalar.subi v8 c1_i32_8
  let v24 : BitVec 32 := Scalar.select v22 v23 v8
  let c0_i32_10 : BitVec 32 := 0#32
  let v28 : BitVec 1 := Scalar.cmpi .sgt v24 c0_i32_10
  let v29 : BitVec 32 := Scalar.extui v28
  let c0_i32_11 : BitVec 32 := 0#32
  let v30 : BitVec 1 := Scalar.cmpi .slt v24 c0_i32_11
  let v31 : BitVec 32 := Scalar.extui v30
  let v32 : BitVec 32 := Scalar.subi v29 v31
  let c3_i32 : BitVec 32 := 3#32
  let c0_i32_12 : BitVec 32 := 0#32
  let v33 : BitVec 1 := Scalar.cmpi .sgt c3_i32 c0_i32_12
  let v34 : BitVec 32 := Scalar.extui v33
  let c0_i32_13 : BitVec 32 := 0#32
  let v35 : BitVec 1 := Scalar.cmpi .slt c3_i32 c0_i32_13
  let v36 : BitVec 32 := Scalar.extui v35
  let v37 : BitVec 32 := Scalar.subi v34 v36
  let v38 : BitVec 1 := Scalar.cmpi .ne v32 v37
  let v39 : BitVec 32 := Scalar.remsi v24 c3_i32
  let c0_i32_14 : BitVec 32 := 0#32
  let v40 : BitVec 1 := Scalar.cmpi .ne v39 c0_i32_14
  let v41 : BitVec 1 := Scalar.andi v38 v40
  let v27 : BitVec 32 := Scalar.divsi v24 c3_i32
  let c1_i32_15 : BitVec 32 := 1#32
  let v42 : BitVec 32 := Scalar.subi v27 c1_i32_15
  let v43 : BitVec 32 := Scalar.select v41 v42 v27
  let c125_i32_9 : BitVec 32 := 125#32
  let v25 : BitVec 32 := Scalar.muli v24 c125_i32_9
  let v26 : BitVec 32 := Scalar.subi v4 v25
  let c400_i32 : BitVec 32 := 400#32
  let v46 : BitVec 32 := Scalar.muli v26 c400_i32
  ![v43.toNat, v46.toNat]
@[reducible] def k0_t2_loop : Scf.Loop 32 :=
  let c0_i32_18 : BitVec 32 := 0#32
  let c25_i32 : BitVec 32 := 25#32
  let v47 : BitVec 32 := Scalar.addi c0_i32_18 c25_i32
  let c1_i32_19 : BitVec 32 := 1#32
  ⟨c0_i32_18, v47, c1_i32_19⟩
def k0_off3 (k0_t2 : Fin k0_t2_loop.trips) : Fin 1 → Nat :=
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v49 : Index := Scalar.indexCast v48
  ![v49.toNat]
def k0_off4 (k0_t2 : Fin k0_t2_loop.trips) : Fin 2 → Nat :=
  let c0_i32_22 : BitVec 32 := 0#32
  let v52 : Index := Scalar.indexCast c0_i32_22
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v53 : Index := Scalar.indexCast v48
  ![0, v53.toNat]
def k0_off5 (k0_t2 : Fin k0_t2_loop.trips) : Fin 2 → Nat :=
  let c1_i32_24 : BitVec 32 := 1#32
  let v58 : Index := Scalar.indexCast c1_i32_24
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v59 : Index := Scalar.indexCast v48
  ![1, v59.toNat]
def k0_off6 (k0_t2 : Fin k0_t2_loop.trips) : Fin 2 → Nat :=
  let c2_i32_26 : BitVec 32 := 2#32
  let v67 : Index := Scalar.indexCast c2_i32_26
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v68 : Index := Scalar.indexCast v48
  ![2, v68.toNat]
def k0_off7 (k0_t2 : Fin k0_t2_loop.trips) : Fin 2 → Nat :=
  let c3_i32_28 : BitVec 32 := 3#32
  let v76 : Index := Scalar.indexCast c3_i32_28
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v77 : Index := Scalar.indexCast v48
  ![3, v77.toNat]
def k0_off8 (k0_t2 : Fin k0_t2_loop.trips) : Fin 2 → Nat :=
  let c4_i32 : BitVec 32 := 4#32
  let v85 : Index := Scalar.indexCast c4_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v86 : Index := Scalar.indexCast v48
  ![4, v86.toNat]
def k0_off9 (k0_t2 : Fin k0_t2_loop.trips) : Fin 2 → Nat :=
  let c5_i32 : BitVec 32 := 5#32
  let v94 : Index := Scalar.indexCast c5_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v95 : Index := Scalar.indexCast v48
  ![5, v95.toNat]
def k0_off10 (k0_t2 : Fin k0_t2_loop.trips) : Fin 2 → Nat :=
  let c6_i32 : BitVec 32 := 6#32
  let v103 : Index := Scalar.indexCast c6_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v104 : Index := Scalar.indexCast v48
  ![6, v104.toNat]
def k0_off11 (k0_t2 : Fin k0_t2_loop.trips) : Fin 2 → Nat :=
  let c7_i32 : BitVec 32 := 7#32
  let v112 : Index := Scalar.indexCast c7_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v113 : Index := Scalar.indexCast v48
  ![7, v113.toNat]
def k0_off12 (k0_t2 : Fin k0_t2_loop.trips) : Fin 2 → Nat :=
  let c8_i32 : BitVec 32 := 8#32
  let v121 : Index := Scalar.indexCast c8_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v122 : Index := Scalar.indexCast v48
  ![8, v122.toNat]
def k0_off13 (k0_t2 : Fin k0_t2_loop.trips) : Fin 2 → Nat :=
  let c9_i32 : BitVec 32 := 9#32
  let v130 : Index := Scalar.indexCast c9_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v131 : Index := Scalar.indexCast v48
  ![9, v131.toNat]
def k0_off14 (k0_t2 : Fin k0_t2_loop.trips) : Fin 2 → Nat :=
  let c10_i32 : BitVec 32 := 10#32
  let v139 : Index := Scalar.indexCast c10_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v140 : Index := Scalar.indexCast v48
  ![10, v140.toNat]
def k0_off15 (k0_t2 : Fin k0_t2_loop.trips) : Fin 2 → Nat :=
  let c11_i32 : BitVec 32 := 11#32
  let v148 : Index := Scalar.indexCast c11_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v149 : Index := Scalar.indexCast v48
  ![11, v149.toNat]
def k0_off16 (k0_t2 : Fin k0_t2_loop.trips) : Fin 2 → Nat :=
  let c12_i32 : BitVec 32 := 12#32
  let v157 : Index := Scalar.indexCast c12_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v158 : Index := Scalar.indexCast v48
  ![12, v158.toNat]
def k0_off17 (k0_t2 : Fin k0_t2_loop.trips) : Fin 2 → Nat :=
  let c13_i32 : BitVec 32 := 13#32
  let v166 : Index := Scalar.indexCast c13_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v167 : Index := Scalar.indexCast v48
  ![13, v167.toNat]
def k0_off18 (k0_t2 : Fin k0_t2_loop.trips) : Fin 2 → Nat :=
  let c14_i32 : BitVec 32 := 14#32
  let v175 : Index := Scalar.indexCast c14_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v176 : Index := Scalar.indexCast v48
  ![14, v176.toNat]
def k0_off19 (k0_t2 : Fin k0_t2_loop.trips) : Fin 2 → Nat :=
  let c15_i32 : BitVec 32 := 15#32
  let v184 : Index := Scalar.indexCast c15_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v185 : Index := Scalar.indexCast v48
  ![15, v185.toNat]
def k0_off20 (k0_t2 : Fin k0_t2_loop.trips) : Fin 2 → Nat :=
  let c16_i32_42 : BitVec 32 := 16#32
  let v193 : Index := Scalar.indexCast c16_i32_42
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v194 : Index := Scalar.indexCast v48
  ![16, v194.toNat]
def k0_off21 (k0_t2 : Fin k0_t2_loop.trips) : Fin 2 → Nat :=
  let c17_i32 : BitVec 32 := 17#32
  let v202 : Index := Scalar.indexCast c17_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v203 : Index := Scalar.indexCast v48
  ![17, v203.toNat]
def k0_off22 (k0_t2 : Fin k0_t2_loop.trips) : Fin 2 → Nat :=
  let c18_i32 : BitVec 32 := 18#32
  let v211 : Index := Scalar.indexCast c18_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v212 : Index := Scalar.indexCast v48
  ![18, v212.toNat]
def k0_off23 (k0_t2 : Fin k0_t2_loop.trips) : Fin 2 → Nat :=
  let c19_i32 : BitVec 32 := 19#32
  let v220 : Index := Scalar.indexCast c19_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v221 : Index := Scalar.indexCast v48
  ![19, v221.toNat]
def k0_off24 (k0_t2 : Fin k0_t2_loop.trips) : Fin 2 → Nat :=
  let c20_i32 : BitVec 32 := 20#32
  let v229 : Index := Scalar.indexCast c20_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v230 : Index := Scalar.indexCast v48
  ![20, v230.toNat]
def k0_off25 (k0_t2 : Fin k0_t2_loop.trips) : Fin 2 → Nat :=
  let c21_i32 : BitVec 32 := 21#32
  let v238 : Index := Scalar.indexCast c21_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v239 : Index := Scalar.indexCast v48
  ![21, v239.toNat]
def k0_off26 (k0_t2 : Fin k0_t2_loop.trips) : Fin 2 → Nat :=
  let c22_i32 : BitVec 32 := 22#32
  let v247 : Index := Scalar.indexCast c22_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v248 : Index := Scalar.indexCast v48
  ![22, v248.toNat]
def k0_off27 (k0_t2 : Fin k0_t2_loop.trips) : Fin 2 → Nat :=
  let c23_i32 : BitVec 32 := 23#32
  let v256 : Index := Scalar.indexCast c23_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v257 : Index := Scalar.indexCast v48
  ![23, v257.toNat]
def k0_off28 (k0_t2 : Fin k0_t2_loop.trips) : Fin 2 → Nat :=
  let c24_i32 : BitVec 32 := 24#32
  let v265 : Index := Scalar.indexCast c24_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v266 : Index := Scalar.indexCast v48
  ![24, v266.toNat]
def k0_off29 (k0_t2 : Fin k0_t2_loop.trips) : Fin 2 → Nat :=
  let c25_i32_52 : BitVec 32 := 25#32
  let v274 : Index := Scalar.indexCast c25_i32_52
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v275 : Index := Scalar.indexCast v48
  ![25, v275.toNat]
def k0_off30 (k0_t2 : Fin k0_t2_loop.trips) : Fin 2 → Nat :=
  let c26_i32 : BitVec 32 := 26#32
  let v283 : Index := Scalar.indexCast c26_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v284 : Index := Scalar.indexCast v48
  ![26, v284.toNat]
def k0_off31 (k0_t2 : Fin k0_t2_loop.trips) : Fin 2 → Nat :=
  let c27_i32 : BitVec 32 := 27#32
  let v292 : Index := Scalar.indexCast c27_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v293 : Index := Scalar.indexCast v48
  ![27, v293.toNat]
def k0_off32 (k0_t2 : Fin k0_t2_loop.trips) : Fin 2 → Nat :=
  let c28_i32 : BitVec 32 := 28#32
  let v301 : Index := Scalar.indexCast c28_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v302 : Index := Scalar.indexCast v48
  ![28, v302.toNat]
def k0_off33 (k0_t2 : Fin k0_t2_loop.trips) : Fin 2 → Nat :=
  let c29_i32 : BitVec 32 := 29#32
  let v310 : Index := Scalar.indexCast c29_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v311 : Index := Scalar.indexCast v48
  ![29, v311.toNat]
def k0_off34 (k0_t2 : Fin k0_t2_loop.trips) : Fin 2 → Nat :=
  let c30_i32 : BitVec 32 := 30#32
  let v319 : Index := Scalar.indexCast c30_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v320 : Index := Scalar.indexCast v48
  ![30, v320.toNat]
def k0_off35 (k0_t2 : Fin k0_t2_loop.trips) : Fin 2 → Nat :=
  let c31_i32 : BitVec 32 := 31#32
  let v328 : Index := Scalar.indexCast c31_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v329 : Index := Scalar.indexCast v48
  ![31, v329.toNat]
def k0_off36 (k0_t2 : Fin k0_t2_loop.trips) : Fin 2 → Nat :=
  let c32_i32_60 : BitVec 32 := 32#32
  let v337 : Index := Scalar.indexCast c32_i32_60
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v338 : Index := Scalar.indexCast v48
  ![32, v338.toNat]
def k0_off37 (k0_t2 : Fin k0_t2_loop.trips) : Fin 2 → Nat :=
  let c33_i32 : BitVec 32 := 33#32
  let v346 : Index := Scalar.indexCast c33_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v347 : Index := Scalar.indexCast v48
  ![33, v347.toNat]
def k0_off38 (k0_t2 : Fin k0_t2_loop.trips) : Fin 2 → Nat :=
  let c34_i32 : BitVec 32 := 34#32
  let v355 : Index := Scalar.indexCast c34_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v356 : Index := Scalar.indexCast v48
  ![34, v356.toNat]
def k0_off39 (k0_t2 : Fin k0_t2_loop.trips) : Fin 2 → Nat :=
  let c35_i32 : BitVec 32 := 35#32
  let v364 : Index := Scalar.indexCast c35_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v365 : Index := Scalar.indexCast v48
  ![35, v365.toNat]
def k0_off40 (k0_t2 : Fin k0_t2_loop.trips) : Fin 2 → Nat :=
  let c36_i32 : BitVec 32 := 36#32
  let v373 : Index := Scalar.indexCast c36_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v374 : Index := Scalar.indexCast v48
  ![36, v374.toNat]
def k0_off41 (k0_t2 : Fin k0_t2_loop.trips) : Fin 2 → Nat :=
  let c37_i32 : BitVec 32 := 37#32
  let v382 : Index := Scalar.indexCast c37_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v383 : Index := Scalar.indexCast v48
  ![37, v383.toNat]
def k0_off42 (k0_t2 : Fin k0_t2_loop.trips) : Fin 2 → Nat :=
  let c38_i32 : BitVec 32 := 38#32
  let v391 : Index := Scalar.indexCast c38_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v392 : Index := Scalar.indexCast v48
  ![38, v392.toNat]
def k0_off43 (k0_t2 : Fin k0_t2_loop.trips) : Fin 2 → Nat :=
  let c39_i32 : BitVec 32 := 39#32
  let v400 : Index := Scalar.indexCast c39_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v401 : Index := Scalar.indexCast v48
  ![39, v401.toNat]
def k0_off44 (k0_t2 : Fin k0_t2_loop.trips) : Fin 2 → Nat :=
  let c40_i32 : BitVec 32 := 40#32
  let v409 : Index := Scalar.indexCast c40_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v410 : Index := Scalar.indexCast v48
  ![40, v410.toNat]
def k0_off45 (k0_t2 : Fin k0_t2_loop.trips) : Fin 2 → Nat :=
  let c41_i32 : BitVec 32 := 41#32
  let v418 : Index := Scalar.indexCast c41_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v419 : Index := Scalar.indexCast v48
  ![41, v419.toNat]
def k0_off46 (k0_t2 : Fin k0_t2_loop.trips) : Fin 2 → Nat :=
  let c42_i32 : BitVec 32 := 42#32
  let v427 : Index := Scalar.indexCast c42_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v428 : Index := Scalar.indexCast v48
  ![42, v428.toNat]
def k0_off47 (k0_t2 : Fin k0_t2_loop.trips) : Fin 2 → Nat :=
  let c43_i32 : BitVec 32 := 43#32
  let v436 : Index := Scalar.indexCast c43_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v437 : Index := Scalar.indexCast v48
  ![43, v437.toNat]
def k0_off48 (k0_t2 : Fin k0_t2_loop.trips) : Fin 2 → Nat :=
  let c44_i32 : BitVec 32 := 44#32
  let v445 : Index := Scalar.indexCast c44_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v446 : Index := Scalar.indexCast v48
  ![44, v446.toNat]
def k0_off49 (k0_t2 : Fin k0_t2_loop.trips) : Fin 2 → Nat :=
  let c45_i32 : BitVec 32 := 45#32
  let v454 : Index := Scalar.indexCast c45_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v455 : Index := Scalar.indexCast v48
  ![45, v455.toNat]
def k0_off50 (k0_t2 : Fin k0_t2_loop.trips) : Fin 2 → Nat :=
  let c46_i32 : BitVec 32 := 46#32
  let v463 : Index := Scalar.indexCast c46_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v464 : Index := Scalar.indexCast v48
  ![46, v464.toNat]
def k0_off51 (k0_t2 : Fin k0_t2_loop.trips) : Fin 2 → Nat :=
  let c47_i32_76 : BitVec 32 := 47#32
  let v472 : Index := Scalar.indexCast c47_i32_76
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v473 : Index := Scalar.indexCast v48
  ![47, v473.toNat]
def k0_off52 (k0_t2 : Fin k0_t2_loop.trips) : Fin 2 → Nat :=
  let c48_i32 : BitVec 32 := 48#32
  let v481 : Index := Scalar.indexCast c48_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v482 : Index := Scalar.indexCast v48
  ![48, v482.toNat]
def k0_off53 (k0_t2 : Fin k0_t2_loop.trips) : Fin 2 → Nat :=
  let c49_i32 : BitVec 32 := 49#32
  let v490 : Index := Scalar.indexCast c49_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v491 : Index := Scalar.indexCast v48
  ![49, v491.toNat]
def k0_off54 (k0_t2 : Fin k0_t2_loop.trips) : Fin 2 → Nat :=
  let c50_i32 : BitVec 32 := 50#32
  let v499 : Index := Scalar.indexCast c50_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v500 : Index := Scalar.indexCast v48
  ![50, v500.toNat]
def k0_off55 (k0_t2 : Fin k0_t2_loop.trips) : Fin 2 → Nat :=
  let c51_i32 : BitVec 32 := 51#32
  let v508 : Index := Scalar.indexCast c51_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v509 : Index := Scalar.indexCast v48
  ![51, v509.toNat]
def k0_off56 (k0_t2 : Fin k0_t2_loop.trips) : Fin 2 → Nat :=
  let c52_i32 : BitVec 32 := 52#32
  let v517 : Index := Scalar.indexCast c52_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v518 : Index := Scalar.indexCast v48
  ![52, v518.toNat]
def k0_off57 (k0_t2 : Fin k0_t2_loop.trips) : Fin 2 → Nat :=
  let c53_i32 : BitVec 32 := 53#32
  let v526 : Index := Scalar.indexCast c53_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v527 : Index := Scalar.indexCast v48
  ![53, v527.toNat]
def k0_off58 (k0_t2 : Fin k0_t2_loop.trips) : Fin 2 → Nat :=
  let c54_i32 : BitVec 32 := 54#32
  let v535 : Index := Scalar.indexCast c54_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v536 : Index := Scalar.indexCast v48
  ![54, v536.toNat]
def k0_off59 (k0_t2 : Fin k0_t2_loop.trips) : Fin 2 → Nat :=
  let c55_i32 : BitVec 32 := 55#32
  let v544 : Index := Scalar.indexCast c55_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v545 : Index := Scalar.indexCast v48
  ![55, v545.toNat]
def k0_off60 (k0_t2 : Fin k0_t2_loop.trips) : Fin 2 → Nat :=
  let c56_i32 : BitVec 32 := 56#32
  let v553 : Index := Scalar.indexCast c56_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v554 : Index := Scalar.indexCast v48
  ![56, v554.toNat]
def k0_off61 (k0_t2 : Fin k0_t2_loop.trips) : Fin 2 → Nat :=
  let c57_i32 : BitVec 32 := 57#32
  let v562 : Index := Scalar.indexCast c57_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v563 : Index := Scalar.indexCast v48
  ![57, v563.toNat]
def k0_off62 (k0_t2 : Fin k0_t2_loop.trips) : Fin 2 → Nat :=
  let c58_i32 : BitVec 32 := 58#32
  let v571 : Index := Scalar.indexCast c58_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v572 : Index := Scalar.indexCast v48
  ![58, v572.toNat]
def k0_off63 (k0_t2 : Fin k0_t2_loop.trips) : Fin 2 → Nat :=
  let c59_i32 : BitVec 32 := 59#32
  let v580 : Index := Scalar.indexCast c59_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v581 : Index := Scalar.indexCast v48
  ![59, v581.toNat]
def k0_off64 (k0_t2 : Fin k0_t2_loop.trips) : Fin 2 → Nat :=
  let c60_i32 : BitVec 32 := 60#32
  let v589 : Index := Scalar.indexCast c60_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v590 : Index := Scalar.indexCast v48
  ![60, v590.toNat]
def k0_off65 (k0_t2 : Fin k0_t2_loop.trips) : Fin 2 → Nat :=
  let c61_i32 : BitVec 32 := 61#32
  let v598 : Index := Scalar.indexCast c61_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v599 : Index := Scalar.indexCast v48
  ![61, v599.toNat]
def k0_off66 (k0_t2 : Fin k0_t2_loop.trips) : Fin 2 → Nat :=
  let c62_i32 : BitVec 32 := 62#32
  let v607 : Index := Scalar.indexCast c62_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v608 : Index := Scalar.indexCast v48
  ![62, v608.toNat]
def k0_off67 (k0_t2 : Fin k0_t2_loop.trips) : Fin 2 → Nat :=
  let c63_i32 : BitVec 32 := 63#32
  let v616 : Index := Scalar.indexCast c63_i32
  let c0_i32_18 : BitVec 32 := 0#32
  let c1_i32_19 : BitVec 32 := 1#32
  let arg11 : BitVec 32 := Scf.iv c0_i32_18 c1_i32_19 k0_t2
  let c16_i32 : BitVec 32 := 16#32
  let v48 : BitVec 32 := Scalar.muli arg11 c16_i32
  let v617 : Index := Scalar.indexCast v48
  ![63, v617.toNat]
def k0_off68 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg10 : BitVec 32 := Scf.iv c0_i32_0 c1_i32 k0_t1
  let c32_i32 : BitVec 32 := 32#32
  let v3 : BitVec 32 := Scalar.muli arg10 c32_i32
  let v4 : BitVec 32 := Scalar.addi v1 v3
  let c0_i32_3 : BitVec 32 := 0#32
  let v9 : BitVec 1 := Scalar.cmpi .sgt v4 c0_i32_3
  let v10 : BitVec 32 := Scalar.extui v9
  let c0_i32_4 : BitVec 32 := 0#32
  let v11 : BitVec 1 := Scalar.cmpi .slt v4 c0_i32_4
  let v12 : BitVec 32 := Scalar.extui v11
  let v13 : BitVec 32 := Scalar.subi v10 v12
  let c125_i32 : BitVec 32 := 125#32
  let c0_i32_5 : BitVec 32 := 0#32
  let v14 : BitVec 1 := Scalar.cmpi .sgt c125_i32 c0_i32_5
  let v15 : BitVec 32 := Scalar.extui v14
  let c0_i32_6 : BitVec 32 := 0#32
  let v16 : BitVec 1 := Scalar.cmpi .slt c125_i32 c0_i32_6
  let v17 : BitVec 32 := Scalar.extui v16
  let v18 : BitVec 32 := Scalar.subi v15 v17
  let v19 : BitVec 1 := Scalar.cmpi .ne v13 v18
  let v20 : BitVec 32 := Scalar.remsi v4 c125_i32
  let c0_i32_7 : BitVec 32 := 0#32
  let v21 : BitVec 1 := Scalar.cmpi .ne v20 c0_i32_7
  let v22 : BitVec 1 := Scalar.andi v19 v21
  let v8 : BitVec 32 := Scalar.divsi v4 c125_i32
  let c1_i32_8 : BitVec 32 := 1#32
  let v23 : BitVec 32 := Scalar.subi v8 c1_i32_8
  let v24 : BitVec 32 := Scalar.select v22 v23 v8
  let c0_i32_10 : BitVec 32 := 0#32
  let v28 : BitVec 1 := Scalar.cmpi .sgt v24 c0_i32_10
  let v29 : BitVec 32 := Scalar.extui v28
  let c0_i32_11 : BitVec 32 := 0#32
  let v30 : BitVec 1 := Scalar.cmpi .slt v24 c0_i32_11
  let v31 : BitVec 32 := Scalar.extui v30
  let v32 : BitVec 32 := Scalar.subi v29 v31
  let c3_i32 : BitVec 32 := 3#32
  let c0_i32_12 : BitVec 32 := 0#32
  let v33 : BitVec 1 := Scalar.cmpi .sgt c3_i32 c0_i32_12
  let v34 : BitVec 32 := Scalar.extui v33
  let c0_i32_13 : BitVec 32 := 0#32
  let v35 : BitVec 1 := Scalar.cmpi .slt c3_i32 c0_i32_13
  let v36 : BitVec 32 := Scalar.extui v35
  let v37 : BitVec 32 := Scalar.subi v34 v36
  let v38 : BitVec 1 := Scalar.cmpi .ne v32 v37
  let v39 : BitVec 32 := Scalar.remsi v24 c3_i32
  let c0_i32_14 : BitVec 32 := 0#32
  let v40 : BitVec 1 := Scalar.cmpi .ne v39 c0_i32_14
  let v41 : BitVec 1 := Scalar.andi v38 v40
  let v27 : BitVec 32 := Scalar.divsi v24 c3_i32
  let c1_i32_15 : BitVec 32 := 1#32
  let v42 : BitVec 32 := Scalar.subi v27 c1_i32_15
  let v43 : BitVec 32 := Scalar.select v41 v42 v27
  let c3_i32_16 : BitVec 32 := 3#32
  let v44 : BitVec 32 := Scalar.muli v43 c3_i32_16
  let v45 : BitVec 32 := Scalar.subi v24 v44
  let c0_i32_21 : BitVec 32 := 0#32
  let c125_i32_9 : BitVec 32 := 125#32
  let v25 : BitVec 32 := Scalar.muli v24 c125_i32_9
  let v26 : BitVec 32 := Scalar.subi v4 v25
  let c400_i32 : BitVec 32 := 400#32
  let v46 : BitVec 32 := Scalar.muli v26 c400_i32
  ![v43.toNat, v45.toNat, 0, v46.toNat]
def k0_off69 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg10 : BitVec 32 := Scf.iv c0_i32_0 c1_i32 k0_t1
  let c32_i32 : BitVec 32 := 32#32
  let v3 : BitVec 32 := Scalar.muli arg10 c32_i32
  let v4 : BitVec 32 := Scalar.addi v1 v3
  let c0_i32_3 : BitVec 32 := 0#32
  let v9 : BitVec 1 := Scalar.cmpi .sgt v4 c0_i32_3
  let v10 : BitVec 32 := Scalar.extui v9
  let c0_i32_4 : BitVec 32 := 0#32
  let v11 : BitVec 1 := Scalar.cmpi .slt v4 c0_i32_4
  let v12 : BitVec 32 := Scalar.extui v11
  let v13 : BitVec 32 := Scalar.subi v10 v12
  let c125_i32 : BitVec 32 := 125#32
  let c0_i32_5 : BitVec 32 := 0#32
  let v14 : BitVec 1 := Scalar.cmpi .sgt c125_i32 c0_i32_5
  let v15 : BitVec 32 := Scalar.extui v14
  let c0_i32_6 : BitVec 32 := 0#32
  let v16 : BitVec 1 := Scalar.cmpi .slt c125_i32 c0_i32_6
  let v17 : BitVec 32 := Scalar.extui v16
  let v18 : BitVec 32 := Scalar.subi v15 v17
  let v19 : BitVec 1 := Scalar.cmpi .ne v13 v18
  let v20 : BitVec 32 := Scalar.remsi v4 c125_i32
  let c0_i32_7 : BitVec 32 := 0#32
  let v21 : BitVec 1 := Scalar.cmpi .ne v20 c0_i32_7
  let v22 : BitVec 1 := Scalar.andi v19 v21
  let v8 : BitVec 32 := Scalar.divsi v4 c125_i32
  let c1_i32_8 : BitVec 32 := 1#32
  let v23 : BitVec 32 := Scalar.subi v8 c1_i32_8
  let v24 : BitVec 32 := Scalar.select v22 v23 v8
  let c0_i32_10 : BitVec 32 := 0#32
  let v28 : BitVec 1 := Scalar.cmpi .sgt v24 c0_i32_10
  let v29 : BitVec 32 := Scalar.extui v28
  let c0_i32_11 : BitVec 32 := 0#32
  let v30 : BitVec 1 := Scalar.cmpi .slt v24 c0_i32_11
  let v31 : BitVec 32 := Scalar.extui v30
  let v32 : BitVec 32 := Scalar.subi v29 v31
  let c3_i32 : BitVec 32 := 3#32
  let c0_i32_12 : BitVec 32 := 0#32
  let v33 : BitVec 1 := Scalar.cmpi .sgt c3_i32 c0_i32_12
  let v34 : BitVec 32 := Scalar.extui v33
  let c0_i32_13 : BitVec 32 := 0#32
  let v35 : BitVec 1 := Scalar.cmpi .slt c3_i32 c0_i32_13
  let v36 : BitVec 32 := Scalar.extui v35
  let v37 : BitVec 32 := Scalar.subi v34 v36
  let v38 : BitVec 1 := Scalar.cmpi .ne v32 v37
  let v39 : BitVec 32 := Scalar.remsi v24 c3_i32
  let c0_i32_14 : BitVec 32 := 0#32
  let v40 : BitVec 1 := Scalar.cmpi .ne v39 c0_i32_14
  let v41 : BitVec 1 := Scalar.andi v38 v40
  let v27 : BitVec 32 := Scalar.divsi v24 c3_i32
  let c1_i32_15 : BitVec 32 := 1#32
  let v42 : BitVec 32 := Scalar.subi v27 c1_i32_15
  let v43 : BitVec 32 := Scalar.select v41 v42 v27
  let c3_i32_16 : BitVec 32 := 3#32
  let v44 : BitVec 32 := Scalar.muli v43 c3_i32_16
  let v45 : BitVec 32 := Scalar.subi v24 v44
  let c125_i32_9 : BitVec 32 := 125#32
  let v25 : BitVec 32 := Scalar.muli v24 c125_i32_9
  let v26 : BitVec 32 := Scalar.subi v4 v25
  let c400_i32 : BitVec 32 := 400#32
  let v46 : BitVec 32 := Scalar.muli v26 c400_i32
  ![v43.toNat, v45.toNat, v46.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x50000 : Shape := ⟨2, ![4, 50000]⟩
abbrev S4x3x64x50000 : Shape := ⟨4, ![4, 3, 64, 50000]⟩
abbrev S4x1x1x50000 : Shape := ⟨4, ![4, 1, 1, 50000]⟩
abbrev S_ : Shape := ⟨0, ![]⟩
abbrev S4x3x50000 : Shape := ⟨3, ![4, 3, 50000]⟩
abbrev S4x3x1x50000 : Shape := ⟨4, ![4, 3, 1, 50000]⟩

abbrev nBuf : Space → Nat
  | .hbm => 13
  | .vmem => 0
  | .smem => 0
  | _ => 0

abbrev bufTy : (tb : Table) → Fin (tcTables nBuf tb) → BufTy
  | .hbm, ⟨0, _⟩ => ⟨S4x50000, .f32⟩
  | .hbm, ⟨1, _⟩ => ⟨S4x3x64x50000, .f32⟩
  | .hbm, ⟨2, _⟩ => ⟨S4x1x1x50000, .f32⟩
  | .hbm, ⟨3, _⟩ => ⟨S4x3x64x50000, .f32⟩
  | .hbm, ⟨4, _⟩ => ⟨S4x3x64x50000, .f32⟩
  | .hbm, ⟨5, _⟩ => ⟨S_, .f32⟩
  | .hbm, ⟨6, _⟩ => ⟨S4x3x50000, .f32⟩
  | .hbm, ⟨7, _⟩ => ⟨S4x3x64x50000, .i32⟩
  | .hbm, ⟨8, _⟩ => ⟨S_, .f32⟩
  | .hbm, ⟨9, _⟩ => ⟨S_, .i32⟩
  | .hbm, ⟨10, _⟩ => ⟨S4x3x50000, .f32⟩
  | .hbm, ⟨11, _⟩ => ⟨S4x3x50000, .i32⟩
  | .hbm, ⟨12, _⟩ => ⟨S4x3x1x50000, .f32⟩
  | _, _ => ⟨S4x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Proof.Scan.lean ====
/-
  The mathematics of the kernel, apart from any program: the running maximum of a sequence of products, the position
  at which it was reached first, and the two results written by them.
-/
module

public import Idealize.ShloMosaic.Lib.Pointwise.Index
public import Idealize.ShloMosaic.PureOps.Vector

@[expose] public section

noncomputable section

namespace Cert.Proof

open Idealize.ShloMosaic

variable {F : FTy → Type} [FloatOps F]

/-- The running maximum of `p 0, …, p n`: a later entry replaces the held one exactly when it compares greater. -/
def scanBest (p : ℕ → F .f32) : ℕ → F .f32
  | 0 => p 0
  | n + 1 => Scalar.select (FloatOps.cmpf .ogt (p (n + 1)) (scanBest p n)) (p (n + 1)) (scanBest p n)

/-- The position of the entry the running maximum holds. -/
def scanIdx (p : ℕ → F .f32) : ℕ → BitVec 32
  | 0 => 0#32
  | n + 1 => Scalar.select (FloatOps.cmpf .ogt (p (n + 1)) (scanBest p n)) (BitVec.ofNat 32 (n + 1)) (scanIdx p n)

/-- The products of one position `l` of batch row `b` with the rows of panel `a`, in order of the rows. -/
def products (mix : (⟨2, ![4, 50000]⟩ : Shape).Idx → F .f32) (panel : (⟨4, ![4, 3, 64, 50000]⟩ : Shape).Idx → F .f32)
    (b : Fin 4) (a : Fin 3) (l : Fin 50000) (n : ℕ) : F .f32 :=
  FloatOps.mulf (mix (ix2 b l)) (panel (ix4 b a ⟨n % 64, Nat.mod_lt _ (by decide)⟩ l))

/-- The pooled values: at every position the running maximum over the 64 rows of the panel. -/
def pooled (mix : (⟨2, ![4, 50000]⟩ : Shape).Idx → F .f32) (panel : (⟨4, ![4, 3, 64, 50000]⟩ : Shape).Idx → F .f32) :
    (⟨4, ![4, 3, 1, 50000]⟩ : Shape).Idx → F .f32 :=
  fun y => scanBest (products mix panel (y 0) (y 1) (y 3)) 63

/-- The indices: at every position the row whose product the running maximum holds. -/
def chosen (mix : (⟨2, ![4, 50000]⟩ : Shape).Idx → F .f32) (panel : (⟨4, ![4, 3, 64, 50000]⟩ : Shape).Idx → F .f32) :
    (⟨3, ![4, 3, 50000]⟩ : Shape).Idx → BitVec 32 :=
  fun y => scanIdx (products mix panel (y 0) (y 1) (y 2)) 63

/-- The products of one position of a staged block: `f` holds 64 rows of 400 positions, `g` the 400 factors. -/
def blockProducts (f : (⟨2, ![64, 400]⟩ : Shape).Idx → F .f32) (g : (⟨1, ![400]⟩ : Shape).Idx → F .f32) (p : Fin 400) (n : ℕ) : F .f32 :=
  FloatOps.mulf (g (ix1 p)) (f (ix2 ⟨n % 64, Nat.mod_lt _ (by decide)⟩ p))

end Cert.Proof

end
-- ==== Proof.KernelIdeal.Setup.lean ====
/-
  The launch of the kernel as the library's SparseCore launch theorem takes it: the program's configuration, the
  resource algebra, the arrays and the scratch buffers by name.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the buffers -/

/-- The `mixed` argument, the reference panel, the pooled values and the indices, as locations of device `d`. -/
abbrev mixLoc (d : Dev nD) : Loc nD τ sig := (SparseCore.T d).loc main_arg0
abbrev panelLoc (d : Dev nD) : Loc nD τ sig := (SparseCore.T d).loc main_arg1
abbrev valLoc (d : Dev nD) : Loc nD τ sig := (SparseCore.T d).loc main_v0_0
abbrev idxLoc (d : Dev nD) : Loc nD τ sig := (SparseCore.T d).loc main_v0_1

/-- The four arrays and the four scratch buffers as a task's body addresses them. -/
abbrev mixV : Memref sig .scVector .hbm S4x50000 .f32 := Memref.whole main_arg0_scv
abbrev panelV : Memref sig .scVector .hbm S4x3x64x50000 .f32 := Memref.whole main_arg1_scv
abbrev valV : Memref sig .scVector .hbm S4x3x1x50000 .f32 := Memref.whole main_v0_0_scv
abbrev idxV : Memref sig .scVector .hbm S4x3x50000 .i32 := Memref.whole main_v0_1_scv
abbrev rB : Memref sig .scVector .vmem S64x400 .f32 := Memref.whole cc0_scratch0
abbrev mB : Memref sig .scVector .vmem S400 .f32 := Memref.whole cc0_scratch1
abbrev vB : Memref sig .scVector .vmem S400 .f32 := Memref.whole cc0_scratch2
abbrev iB : Memref sig .scVector .vmem S400 .i32 := Memref.whole cc0_scratch3

/-- The SparseCore and the vector subcore a task's coordinates name. -/
abbrev cV (L : grid0.Coords) : Fin τ.nSC := (L 0).castLE hcore0
abbrev jV (L : grid0.Coords) : Fin τ.nSub := (L 1).castLE hsub0

end Cert.Proof.KernelIdeal

end
-- ==== Proof.KernelIdeal.Lanes.lean ====
/-
  One trip of the kernel's inner loop: sixteen positions of a staged block. The 64 unrolled steps are folded, one after
  another, into the running maximum of `Scan`, and the trip leaves that maximum and its position in the two result
  buffers.
-/
module

public import proofs.«01_k».proof.Proof.KernelIdeal.Setup
public import proofs.«01_k».proof.Proof.Scan
public import Idealize.ShloMosaic.Lib.Pointwise.TacticCore
public import Idealize.ShloMosaic.Lib.WritesUnit

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The vectors a trip reads -/

/-- A trip of the inner loop is one of 25. -/
theorem trip_lt (u : Fin k0_t2_loop.trips) : u.val < 25 := u.isLt

/-- The first position a trip works on is sixteen times its number. -/
theorem laneOff_eq (u : Fin k0_t2_loop.trips) : k0_off3 u 0 = 16 * u.val := by rw [k0_off3_eq]; rfl

/-- Sixteen positions of any row of the block lie inside it. -/
theorem rowOff_inb (n : ℕ) (u : Fin k0_t2_loop.trips) :
    ∀ a, (![n % 64, k0_off3 u 0] : Fin 2 → ℕ) a + S1x16.size a ≤ S64x400.size a := by
  have hu := trip_lt u
  have ho := laneOff_eq u
  intro a
  match a with
  | 0 => show n % 64 + 1 ≤ 64; omega
  | 1 => show k0_off3 u 0 + 16 ≤ 400; omega

/-- A trip's sixteen positions, of row `n` of the block. -/
def rowVec (u : Fin k0_t2_loop.trips) (f : S64x400.Idx → Elt F .f32) (n : ℕ) : FVec F S16 .f32 :=
  shapeCast S16 (View.readAt (Elt F) (View.whole cc0_scratch0)
    (Rect.unit (s := S64x400) ![n % 64, k0_off3 u 0] S1x16.size (rowOff_inb n u)).toLoadRect f) shapeCasts_S1x16_S16

/-- A trip's sixteen positions of the factors. -/
def mixVec (u : Fin k0_t2_loop.trips) (h : ∀ a, k0_off3 u a + S16.size a ≤ S400.size a) (f : S400.Idx → Elt F .f32) : FVec F S16 .f32 :=
  shapeCast S16 (View.readAt (Elt F) (View.whole cc0_scratch1)
    (Rect.unit (s := S400) (k0_off3 u) S16.size h).toLoadRect f) shapeCasts_S16_S16

/-- The position of the block at which lane `x` of trip `u` works. -/
def lanePos (u : Fin k0_t2_loop.trips) (x : S16.Idx) : Fin 400 :=
  ⟨16 * u.val + (x 0).val, by have := trip_lt u; have h : (x 0).val < 16 := (x 0).isLt; omega⟩

/-- Lane `x` of a row's vector is the row's element at the lane's position. -/
theorem rowVec_apply (u : Fin k0_t2_loop.trips) (f : S64x400.Idx → Elt F .f32) (n : ℕ) (x : S16.Idx) :
    rowVec u f n x = f (ix2 ⟨n % 64, Nat.mod_lt _ (by decide)⟩ (lanePos u x)) := by
  have e : Shape.reshapeEquiv shapeCasts_S1x16_S16 x = ix2 (0 : Fin 1) (x 0) :=
    Shape.reshapeEquiv_eq_of_rowMajor _ (by
      refine (Shape.rowMajor_val_two (d := ![1, 16]) _).trans (Eq.trans ?_ (Shape.rowMajor_val_one (d := ![16]) _).symm)
      show 0 * 16 + (x 0).val = (x 0).val
      omega)
  show f _ = f _
  congr 1
  funext a
  refine Fin.ext ?_
  show (![n % 64, k0_off3 u 0] : Fin 2 → ℕ) a + 1 * (Shape.reshapeEquiv shapeCasts_S1x16_S16 x a).val = _
  rw [e]
  have ho := laneOff_eq u
  match a with
  | 0 => show n % 64 + 1 * 0 = n % 64; omega
  | 1 => show k0_off3 u 0 + 1 * (x 0).val = 16 * u.val + (x 0).val; omega

/-- Lane `x` of the factors' vector is the factor at the lane's position. -/
theorem mixVec_apply (u : Fin k0_t2_loop.trips) (h : ∀ a, k0_off3 u a + S16.size a ≤ S400.size a) (f : S400.Idx → Elt F .f32) (x : S16.Idx) :
    mixVec u h f x = f (ix1 (lanePos u x)) := by
  have e : Shape.reshapeEquiv shapeCasts_S16_S16 x = x := Shape.reshapeEquiv_self _ _
  show f _ = f _
  congr 1
  funext a
  refine Fin.ext ?_
  show k0_off3 u a + 1 * (Shape.reshapeEquiv shapeCasts_S16_S16 x a).val = _
  rw [e]
  have ho := laneOff_eq u
  match a with
  | 0 => show k0_off3 u 0 + 1 * (x 0).val = 16 * u.val + (x 0).val; omega

/-! ## The 64 steps, on vectors -/

/-- The running maximum after row `n`, sixteen positions at once. -/
def bestV (m : FVec F S16 .f32) (r : ℕ → FVec F S16 .f32) : ℕ → FVec F S16 .f32
  | 0 => mulf m (r 0)
  | n + 1 => select (cmpf .ogt (mulf m (r (n + 1))) (bestV m r n)) (mulf m (r (n + 1))) (bestV m r n)

/-- The row the running maximum was taken from, sixteen positions at once. -/
def indexV (m : FVec F S16 .f32) (r : ℕ → FVec F S16 .f32) : ℕ → IVec S16 32
  | 0 => broadcast S16 0#32
  | n + 1 => select (cmpf .ogt (mulf m (r (n + 1))) (bestV m r n)) (broadcast S16 (BitVec.ofNat 32 (n + 1))) (indexV m r n)

/-- Lane by lane the vectors' running maximum is the scalar one. -/
theorem bestV_apply (m : FVec F S16 .f32) (r : ℕ → FVec F S16 .f32) (x : S16.Idx) (n : ℕ) :
    bestV m r n x = scanBest (fun i => FloatOps.mulf (m x) (r i x)) n := by
  induction n with
  | zero => rfl
  | succ n ih => rw [bestV, scanBest, ← ih]; rfl

/-- Lane by lane the vectors' row is the scalar one. -/
theorem indexV_apply (m : FVec F S16 .f32) (r : ℕ → FVec F S16 .f32) (x : S16.Idx) (n : ℕ) :
    indexV m r n x = scanIdx (fun i => FloatOps.mulf (m x) (r i x)) n := by
  induction n with
  | zero => rfl
  | succ n ih => rw [indexV, scanIdx, ← ih, ← bestV_apply]; rfl

/-- What lane `x` of trip `u` holds after all rows: the scalar running maximum at the lane's position. -/
theorem bestV_lane (u : Fin k0_t2_loop.trips) (h : ∀ a, k0_off3 u a + S16.size a ≤ S400.size a) (f : S64x400.Idx → Elt F .f32)
    (g : S400.Idx → Elt F .f32) (x : S16.Idx) (n : ℕ) :
    bestV (mixVec u h g) (rowVec u f) n x = scanBest (blockProducts f g (lanePos u x)) n := by
  rw [bestV_apply]
  congr 1
  funext i
  rw [mixVec_apply, rowVec_apply]
  rfl

/-- And the row it was taken from. -/
theorem indexV_lane (u : Fin k0_t2_loop.trips) (h : ∀ a, k0_off3 u a + S16.size a ≤ S400.size a) (f : S64x400.Idx → Elt F .f32)
    (g : S400.Idx → Elt F .f32) (x : S16.Idx) (n : ℕ) :
    indexV (mixVec u h g) (rowVec u f) n x = scanIdx (blockProducts f g (lanePos u x)) n := by
  rw [indexV_apply]
  congr 1
  funext i
  rw [mixVec_apply, rowVec_apply]
  rfl

/-! ## Folding the unrolled steps -/

/-- A read of sixteen positions at the trip's offset is a row's vector. -/
theorem row_fold (u : Fin k0_t2_loop.trips) (f : S64x400.Idx → Elt F .f32) (off : Fin 2 → ℕ)
    (inb : ∀ a, off a + S1x16.size a ≤ S64x400.size a) (h : off 1 = k0_off3 u 0) :
    shapeCast S16 (View.readAt (Elt F) (View.whole cc0_scratch0) (Rect.unit (s := S64x400) off S1x16.size inb).toLoadRect f) shapeCasts_S1x16_S16
      = rowVec u f (off 0) := by
  have e : off = ![off 0 % 64, k0_off3 u 0] := by
    have h64 : off 0 + 1 ≤ 64 := inb 0
    funext a
    match a with
    | 0 => exact (Nat.mod_eq_of_lt (by omega)).symm
    | 1 => exact h
  unfold rowVec
  congr 2
  simp only [← e]

theorem mix_fold (u : Fin k0_t2_loop.trips) (h : ∀ a, k0_off3 u a + S16.size a ≤ S400.size a) (f : S400.Idx → Elt F .f32) :
    shapeCast S16 (View.readAt (Elt F) (View.whole cc0_scratch1) (Rect.unit (s := S400) (k0_off3 u) S16.size h).toLoadRect f) shapeCasts_S16_S16
      = mixVec u h f := rfl

theorem best_zero (m : FVec F S16 .f32) (r : ℕ → FVec F S16 .f32) (a : ℕ) (h : a = 0) : mulf m (r a) = bestV m r 0 := by
  subst h; rfl

theorem index_zero (m : FVec F S16 .f32) (r : ℕ → FVec F S16 .f32) : broadcast S16 0#32 = indexV m r 0 := rfl

theorem best_succ (m : FVec F S16 .f32) (r : ℕ → FVec F S16 .f32) (a n : ℕ) (h : a = n + 1) :
    select (cmpf .ogt (mulf m (r a)) (bestV m r n)) (mulf m (r a)) (bestV m r n) = bestV m r (n + 1) := by
  subst h; rfl

theorem index_succ (m : FVec F S16 .f32) (r : ℕ → FVec F S16 .f32) (a n : ℕ) (w : BitVec 32) (h : a = n + 1)
    (hw : w = BitVec.ofNat 32 (n + 1)) :
    select (cmpf .ogt (mulf m (r a)) (bestV m r n)) (broadcast S16 w) (indexV m r n) = indexV m r (n + 1) := by
  subst h hw; rfl

/-- A cast of sixteen lanes to sixteen lanes changes nothing. -/
theorem cast_self {α : Type} (x : S16.Idx → α) : shapeCast S16 x shapeCasts_S16_S16 = x :=
  funext fun j => congrArg x (Shape.reshapeEquiv_self _ j)

/-! ## One trip -/

/-- A trip stores the running maximum of its sixteen positions, and the rows it was taken from, and changes nothing else. -/
theorem trip (d : Dev nD) (L : grid0.Coords) (t : Fin k0_t1_loop.trips) (h : k0_cond1 L t = 1#1) (u : Fin k0_t2_loop.trips)
    (f6 : Buf (Elt F) ((V d (cV L) (jV L)).loc cc0_scratch0)) (f7 : Buf (Elt F) ((V d (cV L) (jV L)).loc cc0_scratch1))
    (f8 : Buf (Elt F) ((V d (cV L) (jV L)).loc cc0_scratch2)) (f9 : Buf (Elt F) ((V d (cV L) (jV L)).loc cc0_scratch3)) :
    (iprop((rB.view.loc (V d (cV L) (jV L)) ↦{fullShare} f6) ∗ (mB.view.loc (V d (cV L) (jV L)) ↦{fullShare} f7)
      ∗ (vB.view.loc (V d (cV L) (jV L)) ↦{fullShare} f8) ∗ (iB.view.loc (V d (cV L) (jV L)) ↦{fullShare} f9)) : sProp 𝕄)
    ⊢ wp frame (wpE (defs₀ (F := F)) 𝒱₀ (V d (cV L) (jV L)) none) Set.univ
        (k0_t2_body L mixV (Memref.isWhole_whole _) panelV (Memref.isWhole_whole _) valV (Memref.isWhole_whole _) idxV (Memref.isWhole_whole _)
          rB (Memref.isWhole_whole _) mB (Memref.isWhole_whole _) vB (Memref.isWhole_whole _) iB (Memref.isWhole_whole _)
          cc0_scoped0 cc0_scoped1 cc0_scoped2 cc0_scoped3 t h u ⟨⟩)
        (fun _ => (iprop((rB.view.loc (V d (cV L) (jV L)) ↦{fullShare} f6) ∗ (mB.view.loc (V d (cV L) (jV L)) ↦{fullShare} f7)
          ∗ (vB.view.loc (V d (cV L) (jV L)) ↦{fullShare} (View.whole cc0_scratch2).writes (Elt F) f8
              [⟨Rect.unit (s := S400) (k0_off3 u) S16.size (k0_off3_inb L t u h), bestV (mixVec u (k0_off3_inb L t u h) f7) (rowVec u f6) 63⟩])
          ∗ (iB.view.loc (V d (cV L) (jV L)) ↦{fullShare} (View.whole cc0_scratch3).writes (Elt F) f9
              [⟨Rect.unit (s := S400) (k0_off3 u) S16.size (k0_off3_inb L t u h), indexV (mixVec u (k0_off3_inb L t u h) f7) (rowVec u f6) 63⟩])) : sProp 𝕄)) := by
  iintro ⟨H6, H7, H8, H9⟩
  sl_unfold [k0_t2_body]
  sl_exec
  sl_step
  isplitl [H6]; · iexact H6
  isplitl [H7]; · iexact H7
  sl_unfold_run_names
  unfold_payloads
  simp -failIfUnchanged (disch := with_unfolding_all exact id rfl) only [cast_self,
    index_zero (mixVec u (k0_off3_inb L t u h) f7) (rowVec u f6), row_fold u f6, mix_fold u _ f7, best_zero, best_succ, index_succ]
  isplitl [H8] <;> iassumption

end Cert.Proof.KernelIdeal

end
-- ==== Proof.KernelIdeal.Places.lean ====
/-
  Where a task works: the worker at coordinates `L` takes up task `taskNo L t` in its trip `t`. The task's number
  gives the batch row, the panel and the 400 positions; the task's slices of the four arrays are named by them.
-/
module

public import proofs.«01_k».proof.Proof.KernelIdeal.Lanes

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The task's number and what it names -/

/-- The number of the task that the worker at `L` takes up in trip `t`. -/
def taskNo (L : grid0.Coords) (t : Fin k0_t1_loop.trips) : ℕ := (L 0).val + 2 * (L 1).val + 32 * t.val

/-- The kernel works on a task exactly when its number is below 1500. -/
theorem cond_iff : ∀ (L : grid0.Coords) (t : Fin k0_t1_loop.trips), k0_cond1 L t = 1#1 ↔ taskNo L t < 1500 := by decide +kernel

/-- A task's batch row. -/
def taskRow (n : ℕ) (h : n < 1500) : Fin 4 := ⟨n / 375, by omega⟩
/-- A task's panel. -/
def taskPanel (n : ℕ) : Fin 3 := ⟨n / 125 % 3, by omega⟩
/-- The `p`-th of a task's 400 positions. -/
def taskPos (n : ℕ) (p : Fin 400) : Fin 50000 := ⟨400 * (n % 125) + p.val, by have := p.isLt; omega⟩

theorem panelOff_eq : ∀ (L : grid0.Coords) (t : Fin k0_t1_loop.trips), k0_cond1 L t = 1#1 →
    k0_off1 L t = ![taskNo L t / 375, taskNo L t / 125 % 3, 0, 400 * (taskNo L t % 125)] := by decide +kernel
theorem mixOff_eq : ∀ (L : grid0.Coords) (t : Fin k0_t1_loop.trips), k0_cond1 L t = 1#1 →
    k0_off2 L t = ![taskNo L t / 375, 400 * (taskNo L t % 125)] := fun L t h => by
  rw [show k0_off2 L t = ![k0_off1 L t 0, k0_off1 L t 3] from rfl, panelOff_eq L t h]; rfl
theorem valOff_eq : ∀ (L : grid0.Coords) (t : Fin k0_t1_loop.trips), k0_cond1 L t = 1#1 →
    k0_off68 L t = ![taskNo L t / 375, taskNo L t / 125 % 3, 0, 400 * (taskNo L t % 125)] := fun L t h =>
  (show k0_off68 L t = k0_off1 L t from rfl).trans (panelOff_eq L t h)
theorem idxOff_eq : ∀ (L : grid0.Coords) (t : Fin k0_t1_loop.trips), k0_cond1 L t = 1#1 →
    k0_off69 L t = ![taskNo L t / 375, taskNo L t / 125 % 3, 400 * (taskNo L t % 125)] := fun L t h => by
  rw [show k0_off69 L t = ![k0_off1 L t 0, k0_off1 L t 1, k0_off1 L t 3] from rfl, panelOff_eq L t h]; rfl

/-! ## The task's slices -/

abbrev panelSlice (L : grid0.Coords) (t : Fin k0_t1_loop.trips) (h : k0_cond1 L t = 1#1) : Memref sig .scVector .hbm S64x400 .f32 :=
  (panelV.slice (Rect.unit (s := S4x3x64x50000) (k0_off1 L t) S1x1x64x400.size (k0_off1_inb L t h)) (fun _ => rfl)).squeeze S64x400 squeezes_S1x1x64x400_S64x400
abbrev mixSlice (L : grid0.Coords) (t : Fin k0_t1_loop.trips) (h : k0_cond1 L t = 1#1) : Memref sig .scVector .hbm S400 .f32 :=
  (mixV.slice (Rect.unit (s := S4x50000) (k0_off2 L t) S1x400.size (k0_off2_inb L t h)) (fun _ => rfl)).squeeze S400 squeezes_S1x400_S400
abbrev valSlice (L : grid0.Coords) (t : Fin k0_t1_loop.trips) (h : k0_cond1 L t = 1#1) : Memref sig .scVector .hbm S400 .f32 :=
  (valV.slice (Rect.unit (s := S4x3x1x50000) (k0_off68 L t) S1x1x1x400.size (k0_off68_inb L t h)) (fun _ => rfl)).squeeze S400 squeezes_S1x1x1x400_S400
abbrev idxSlice (L : grid0.Coords) (t : Fin k0_t1_loop.trips) (h : k0_cond1 L t = 1#1) : Memref sig .scVector .hbm S400 .i32 :=
  (idxV.slice (Rect.unit (s := S4x3x50000) (k0_off69 L t) S1x1x400.size (k0_off69_inb L t h)) (fun _ => rfl)).squeeze S400 squeezes_S1x1x400_S400

/-- Row `x 0`, position `x 1` of the panel's slice is that row of the task's panel, at the task's position. -/
theorem panelSlice_emb (L : grid0.Coords) (t : Fin k0_t1_loop.trips) (h : k0_cond1 L t = 1#1) (x : S64x400.Idx) :
    (panelSlice L t h).view.emb x
      = ix4 (taskRow (taskNo L t) ((cond_iff L t).mp h)) (taskPanel (taskNo L t)) (x 0) (taskPos (taskNo L t) (x 1)) := by
  have e : Shape.reshapeEquiv squeezes_S1x1x64x400_S64x400.numel_eq x = ix4 (0 : Fin 1) (0 : Fin 1) (x 0) (x 1) :=
    Shape.reshapeEquiv_eq_of_rowMajor _ (by
      refine (Shape.rowMajor_val_four (d := ![1, 1, 64, 400]) _).trans (Eq.trans ?_ (Shape.rowMajor_val_two (d := ![64, 400]) _).symm)
      show ((0 * 1 + 0) * 64 + (x 0).val) * 400 + (x 1).val = (x 0).val * 400 + (x 1).val
      omega)
  have ho := panelOff_eq L t h
  funext a
  refine Fin.ext ?_
  show k0_off1 L t a + 1 * (Shape.reshapeEquiv squeezes_S1x1x64x400_S64x400.numel_eq x a).val = _
  rw [e, ho]
  match a with
  | 0 => show taskNo L t / 375 + 1 * 0 = taskNo L t / 375; omega
  | 1 => show taskNo L t / 125 % 3 + 1 * 0 = taskNo L t / 125 % 3; omega
  | 2 => show 0 + 1 * (x 0).val = (x 0).val; omega
  | 3 => show 400 * (taskNo L t % 125) + 1 * (x 1).val = 400 * (taskNo L t % 125) + (x 1).val; omega

/-- Position `x 0` of the slice of `mixed` is the task's batch row at the task's position. -/
theorem mixSlice_emb (L : grid0.Coords) (t : Fin k0_t1_loop.trips) (h : k0_cond1 L t = 1#1) (x : S400.Idx) :
    (mixSlice L t h).view.emb x = ix2 (taskRow (taskNo L t) ((cond_iff L t).mp h)) (taskPos (taskNo L t) (x 0)) := by
  have e : Shape.reshapeEquiv squeezes_S1x400_S400.numel_eq x = ix2 (0 : Fin 1) (x 0) :=
    Shape.reshapeEquiv_eq_of_rowMajor _ (by
      refine (Shape.rowMajor_val_two (d := ![1, 400]) _).trans (Eq.trans ?_ (Shape.rowMajor_val_one (d := ![400]) _).symm)
      show 0 * 400 + (x 0).val = (x 0).val
      omega)
  have ho := mixOff_eq L t h
  funext a
  refine Fin.ext ?_
  show k0_off2 L t a + 1 * (Shape.reshapeEquiv squeezes_S1x400_S400.numel_eq x a).val = _
  rw [e, ho]
  match a with
  | 0 => show taskNo L t / 375 + 1 * 0 = taskNo L t / 375; omega
  | 1 => show 400 * (taskNo L t % 125) + 1 * (x 0).val = 400 * (taskNo L t % 125) + (x 0).val; omega

/-- Position `x 0` of the slice of the pooled values, in the array's coordinates. -/
theorem valSlice_emb (L : grid0.Coords) (t : Fin k0_t1_loop.trips) (h : k0_cond1 L t = 1#1) (x : S400.Idx) :
    (valSlice L t h).view.emb x
      = ix4 (taskRow (taskNo L t) ((cond_iff L t).mp h)) (taskPanel (taskNo L t)) (0 : Fin 1) (taskPos (taskNo L t) (x 0)) := by
  have e : Shape.reshapeEquiv squeezes_S1x1x1x400_S400.numel_eq x = ix4 (0 : Fin 1) (0 : Fin 1) (0 : Fin 1) (x 0) :=
    Shape.reshapeEquiv_eq_of_rowMajor _ (by
      refine (Shape.rowMajor_val_four (d := ![1, 1, 1, 400]) _).trans (Eq.trans ?_ (Shape.rowMajor_val_one (d := ![400]) _).symm)
      show ((0 * 1 + 0) * 1 + 0) * 400 + (x 0).val = (x 0).val
      omega)
  have ho := valOff_eq L t h
  funext a
  refine Fin.ext ?_
  show k0_off68 L t a + 1 * (Shape.reshapeEquiv squeezes_S1x1x1x400_S400.numel_eq x a).val = _
  rw [e, ho]
  match a with
  | 0 => show taskNo L t / 375 + 1 * 0 = taskNo L t / 375; omega
  | 1 => show taskNo L t / 125 % 3 + 1 * 0 = taskNo L t / 125 % 3; omega
  | 2 => show 0 + 1 * 0 = 0; omega
  | 3 => show 400 * (taskNo L t % 125) + 1 * (x 0).val = 400 * (taskNo L t % 125) + (x 0).val; omega

/-- Position `x 0` of the slice of the indices, in the array's coordinates. -/
theorem idxSlice_emb (L : grid0.Coords) (t : Fin k0_t1_loop.trips) (h : k0_cond1 L t = 1#1) (x : S400.Idx) :
    (idxSlice L t h).view.emb x
      = ix3 (taskRow (taskNo L t) ((cond_iff L t).mp h)) (taskPanel (taskNo L t)) (taskPos (taskNo L t) (x 0)) := by
  have e : Shape.reshapeEquiv squeezes_S1x1x400_S400.numel_eq x = ix3 (0 : Fin 1) (0 : Fin 1) (x 0) :=
    Shape.reshapeEquiv_eq_of_rowMajor _ (by
      refine (Shape.rowMajor_val_three (d := ![1, 1, 400]) _).trans (Eq.trans ?_ (Shape.rowMajor_val_one (d := ![400]) _).symm)
      show (0 * 1 + 0) * 400 + (x 0).val = (x 0).val
      omega)
  have ho := idxOff_eq L t h
  funext a
  refine Fin.ext ?_
  show k0_off69 L t a + 1 * (Shape.reshapeEquiv squeezes_S1x1x400_S400.numel_eq x a).val = _
  rw [e, ho]
  match a with
  | 0 => show taskNo L t / 375 + 1 * 0 = taskNo L t / 375; omega
  | 1 => show taskNo L t / 125 % 3 + 1 * 0 = taskNo L t / 125 % 3; omega
  | 2 => show 400 * (taskNo L t % 125) + 1 * (x 0).val = 400 * (taskNo L t % 125) + (x 0).val; omega

/-! ## The pieces of the two results -/

/-- The positions of the pooled values that the worker at `L` writes in trip `t`; none when there is no such task. -/
def valPiece (L : grid0.Coords) (t : Fin k0_t1_loop.trips) : Finset S4x3x1x50000.Idx :=
  Finset.univ.filter fun y => ((y 0).val * 3 + (y 1).val) * 125 + (y 3).val / 400 = taskNo L t
/-- The positions of the indices that the worker at `L` writes in trip `t`. -/
def idxPiece (L : grid0.Coords) (t : Fin k0_t1_loop.trips) : Finset S4x3x50000.Idx :=
  Finset.univ.filter fun y => ((y 0).val * 3 + (y 1).val) * 125 + (y 2).val / 400 = taskNo L t

/-- A task's slice of the pooled values covers exactly its piece. -/
theorem valSlice_set (L : grid0.Coords) (t : Fin k0_t1_loop.trips) (h : k0_cond1 L t = 1#1) : (valSlice L t h).view.set = valPiece L t := by
  have hn := (cond_iff L t).mp h
  ext y
  rw [valPiece, Finset.mem_filter]
  constructor
  · intro hy
    obtain ⟨x, -, rfl⟩ := Finset.mem_map.mp hy
    refine ⟨Finset.mem_univ _, ?_⟩
    rw [valSlice_emb]
    have hx : (x 0).val < 400 := (x 0).isLt
    show (taskNo L t / 375 * 3 + taskNo L t / 125 % 3) * 125 + (400 * (taskNo L t % 125) + (x 0).val) / 400 = taskNo L t
    omega
  · rintro ⟨-, hy⟩
    have h1 : (y 1).val < 3 := (y 1).isLt
    have h2 : (y 2).val < 1 := (y 2).isLt
    have h3 : (y 3).val < 50000 := (y 3).isLt
    refine Finset.mem_map.mpr ⟨ix1 (⟨(y 3).val % 400, Nat.mod_lt _ (by decide)⟩ : Fin 400), Finset.mem_univ _, ?_⟩
    rw [valSlice_emb]
    funext a
    refine Fin.ext ?_
    match a with
    | 0 => show taskNo L t / 375 = (y 0).val; omega
    | 1 => show taskNo L t / 125 % 3 = (y 1).val; omega
    | 2 => show 0 = (y 2).val; omega
    | 3 => show 400 * (taskNo L t % 125) + (y 3).val % 400 = (y 3).val; omega

/-- A task's slice of the indices covers exactly its piece. -/
theorem idxSlice_set (L : grid0.Coords) (t : Fin k0_t1_loop.trips) (h : k0_cond1 L t = 1#1) : (idxSlice L t h).view.set = idxPiece L t := by
  have hn := (cond_iff L t).mp h
  ext y
  rw [idxPiece, Finset.mem_filter]
  constructor
  · intro hy
    obtain ⟨x, -, rfl⟩ := Finset.mem_map.mp hy
    refine ⟨Finset.mem_univ _, ?_⟩
    rw [idxSlice_emb]
    have hx : (x 0).val < 400 := (x 0).isLt
    show (taskNo L t / 375 * 3 + taskNo L t / 125 % 3) * 125 + (400 * (taskNo L t % 125) + (x 0).val) / 400 = taskNo L t
    omega
  · rintro ⟨-, hy⟩
    have h1 : (y 1).val < 3 := (y 1).isLt
    have h3 : (y 2).val < 50000 := (y 2).isLt
    refine Finset.mem_map.mpr ⟨ix1 (⟨(y 2).val % 400, Nat.mod_lt _ (by decide)⟩ : Fin 400), Finset.mem_univ _, ?_⟩
    rw [idxSlice_emb]
    funext a
    refine Fin.ext ?_
    match a with
    | 0 => show taskNo L t / 375 = (y 0).val; omega
    | 1 => show taskNo L t / 125 % 3 = (y 1).val; omega
    | 2 => show 400 * (taskNo L t % 125) + (y 2).val % 400 = (y 2).val; omega

/-- Without a task there is nothing to write. -/
theorem valPiece_none (L : grid0.Coords) (t : Fin k0_t1_loop.trips) (h : ¬ k0_cond1 L t = 1#1) : valPiece L t = ∅ := by
  have hn : ¬ taskNo L t < 1500 := fun hn => h ((cond_iff L t).mpr hn)
  refine Finset.filter_eq_empty_iff.mpr fun y _ hy => ?_
  have h0 : (y 0).val < 4 := (y 0).isLt
  have h1 : (y 1).val < 3 := (y 1).isLt
  have h3 : (y 3).val < 50000 := (y 3).isLt
  omega

theorem idxPiece_none (L : grid0.Coords) (t : Fin k0_t1_loop.trips) (h : ¬ k0_cond1 L t = 1#1) : idxPiece L t = ∅ := by
  have hn : ¬ taskNo L t < 1500 := fun hn => h ((cond_iff L t).mpr hn)
  refine Finset.filter_eq_empty_iff.mpr fun y _ hy => ?_
  have h0 : (y 0).val < 4 := (y 0).isLt
  have h1 : (y 1).val < 3 := (y 1).isLt
  have h3 : (y 2).val < 50000 := (y 2).isLt
  omega

/-! ## What a task leaves in its pieces -/

/-- The products of the staged block are the task's products. -/
theorem blockProducts_staged (L : grid0.Coords) (t : Fin k0_t1_loop.trips) (h : k0_cond1 L t = 1#1)
    (fm : S4x50000.Idx → Elt F .f32) (fp : S4x3x64x50000.Idx → Elt F .f32) (p : Fin 400) :
    blockProducts ((panelSlice L t h).view.read (Elt F) fp) ((mixSlice L t h).view.read (Elt F) fm) p
      = products fm fp (taskRow (taskNo L t) ((cond_iff L t).mp h)) (taskPanel (taskNo L t)) (taskPos (taskNo L t) p) := by
  funext n
  show FloatOps.mulf (fm _) (fp _) = FloatOps.mulf (fm _) (fp _)
  rw [panelSlice_emb, mixSlice_emb]
  rfl

/-- Writing the block's running maxima through the task's slice leaves the pooled values on the task's piece. -/
theorem valSlice_write (L : grid0.Coords) (t : Fin k0_t1_loop.trips) (h : k0_cond1 L t = 1#1)
    (fm : S4x50000.Idx → Elt F .f32) (fp : S4x3x64x50000.Idx → Elt F .f32) (fv : S4x3x1x50000.Idx → Elt F .f32) (w : S400.Idx → Elt F .f32)
    (hw : ∀ p : Fin 400, w (ix1 p) = scanBest (blockProducts ((panelSlice L t h).view.read (Elt F) fp) ((mixSlice L t h).view.read (Elt F) fm) p) 63) :
    ∀ i ∈ (valSlice L t h).view.set, (valSlice L t h).view.writes (Elt F) fv [⟨Rect.whole S400, w⟩] i = pooled fm fp i := by
  intro i hi
  obtain ⟨x, -, rfl⟩ := Finset.mem_map.mp hi
  obtain ⟨p, rfl⟩ : ∃ p : Fin 400, x = ix1 p := ⟨x 0, funext fun a => by match a with | 0 => rfl⟩
  have hr := View.read_writes_cons_emb (valSlice L t h).view fv (Rect.whole S400) w [] (ix1 p)
  rw [Rect.emb_whole_apply] at hr
  refine hr.trans ?_
  show w (ix1 p) = _
  rw [hw, blockProducts_staged, valSlice_emb]
  rfl

/-- Writing the rows the maxima were taken from leaves the indices on the task's piece. -/
theorem idxSlice_write (L : grid0.Coords) (t : Fin k0_t1_loop.trips) (h : k0_cond1 L t = 1#1)
    (fm : S4x50000.Idx → Elt F .f32) (fp : S4x3x64x50000.Idx → Elt F .f32) (fi : S4x3x50000.Idx → Elt F .i32) (w : S400.Idx → Elt F .i32)
    (hw : ∀ p : Fin 400, w (ix1 p) = scanIdx (blockProducts ((panelSlice L t h).view.read (Elt F) fp) ((mixSlice L t h).view.read (Elt F) fm) p) 63) :
    ∀ i ∈ (idxSlice L t h).view.set, (idxSlice L t h).view.writes (Elt F) fi [⟨Rect.whole S400, w⟩] i = chosen fm fp i := by
  intro i hi
  obtain ⟨x, -, rfl⟩ := Finset.mem_map.mp hi
  obtain ⟨p, rfl⟩ : ∃ p : Fin 400, x = ix1 p := ⟨x 0, funext fun a => by match a with | 0 => rfl⟩
  have hr := View.read_writes_cons_emb (idxSlice L t h).view fi (Rect.whole S400) w [] (ix1 p)
  rw [Rect.emb_whole_apply] at hr
  refine hr.trans ?_
  show w (ix1 p) = _
  rw [hw, blockProducts_staged, idxSlice_emb]
  rfl

/-! ## How far the inner loop has come -/

/-- A trip's store extends by sixteen the positions of the block that hold their results. -/
theorem lanes_extend {e : EltTy} (v : View sig .scVector .vmem S400 e) (u : Fin k0_t2_loop.trips) (inb : ∀ a, k0_off3 u a + S16.size a ≤ S400.size a)
    (f : v.ty.Contents (Elt F)) (w : S16.Idx → Elt F e) (g : Fin 400 → Elt F e)
    (hw : ∀ x, w x = g (lanePos u x)) (hf : ∀ p : Fin 400, p.val < 16 * u.val → v.read (Elt F) f (ix1 p) = g p) :
    ∀ p : Fin 400, p.val < 16 * (u.val + 1) →
      v.read (Elt F) (v.writes (Elt F) f [⟨Rect.unit (s := S400) (k0_off3 u) S16.size inb, w⟩]) (ix1 p) = g p := by
  intro p hp
  have ho := laneOff_eq u
  by_cases hlt : p.val < 16 * u.val
  · refine (View.read_writes_cons_unit_of_not_mem v f inb w [] (ix1 p) rfl (0 : Fin 1) ?_).trans (hf p hlt)
    left
    show p.val < k0_off3 u 0
    omega
  · refine (View.read_writes_cons_unit_of_mem v f inb w [] (ix1 p) (ix1 (⟨p.val - 16 * u.val, by omega⟩ : Fin 16)) rfl ?_).trans ?_
    · intro a
      match a with
      | 0 => show p.val = k0_off3 u 0 + (p.val - 16 * u.val); omega
    · rw [hw]
      congr 1
      refine Fin.ext ?_
      show 16 * u.val + (p.val - 16 * u.val) = p.val
      omega

end Cert.Proof.KernelIdeal

end
-- ==== Proof.KernelIdeal.Task.lean ====
/-
  One trip of the kernel's outer loop: a task's block and factors are fetched, the inner loop fills the two result
  buffers, and these are written out to the task's pieces of the two results.
-/
module

public import proofs.«01_k».proof.Proof.KernelIdeal.Places

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What holds between the inner loop's trips: the staged block and factors are kept, and the positions below `16 * k`
    of the two result buffers hold the running maximum and its row. -/
def inner (d : Dev nD) (L : grid0.Coords) (f6 : S64x400.Idx → Elt F .f32) (f7 : S400.Idx → Elt F .f32) (k : ℕ) (_ : PUnit) : sProp 𝕄 :=
  iprop((rB.view.loc (V d (cV L) (jV L)) ↦{fullShare} f6) ∗ (mB.view.loc (V d (cV L) (jV L)) ↦{fullShare} f7)
    ∗ ∃ (f8 : S400.Idx → Elt F .f32) (f9 : S400.Idx → Elt F .i32),
        ⌜∀ p : Fin 400, p.val < 16 * k → f8 (ix1 p) = scanBest (blockProducts f6 f7 p) 63⌝
        ∗ ⌜∀ p : Fin 400, p.val < 16 * k → f9 (ix1 p) = scanIdx (blockProducts f6 f7 p) 63⌝
        ∗ (vB.view.loc (V d (cV L) (jV L)) ↦{fullShare} f8) ∗ (iB.view.loc (V d (cV L) (jV L)) ↦{fullShare} f9))

/-- What a trip of the inner loop leaves is the invariant, sixteen positions further. -/
theorem inner_extend (d : Dev nD) (L : grid0.Coords) (u : Fin k0_t2_loop.trips) (inb : ∀ a, k0_off3 u a + S16.size a ≤ S400.size a)
    (f6 : S64x400.Idx → Elt F .f32) (f7 : S400.Idx → Elt F .f32) (f8 : S400.Idx → Elt F .f32) (f9 : S400.Idx → Elt F .i32)
    (h8 : ∀ p : Fin 400, p.val < 16 * u.val → f8 (ix1 p) = scanBest (blockProducts f6 f7 p) 63)
    (h9 : ∀ p : Fin 400, p.val < 16 * u.val → f9 (ix1 p) = scanIdx (blockProducts f6 f7 p) 63) :
    (iprop((rB.view.loc (V d (cV L) (jV L)) ↦{fullShare} f6) ∗ (mB.view.loc (V d (cV L) (jV L)) ↦{fullShare} f7)
      ∗ (vB.view.loc (V d (cV L) (jV L)) ↦{fullShare} (View.whole cc0_scratch2).writes (Elt F) f8
          [⟨Rect.unit (s := S400) (k0_off3 u) S16.size inb, bestV (mixVec u inb f7) (rowVec u f6) 63⟩])
      ∗ (iB.view.loc (V d (cV L) (jV L)) ↦{fullShare} (View.whole cc0_scratch3).writes (Elt F) f9
          [⟨Rect.unit (s := S400) (k0_off3 u) S16.size inb, indexV (mixVec u inb f7) (rowVec u f6) 63⟩])) : sProp 𝕄)
    ⊢ inner d L f6 f7 (u.val + 1) ⟨⟩ := by
  unfold inner
  iintro ⟨H6, H7, H8, H9⟩
  isplitl [H6]; · iexact H6
  isplitl [H7]; · iexact H7
  iexists ((View.whole cc0_scratch2).writes (Elt F) f8
      [⟨Rect.unit (s := S400) (k0_off3 u) S16.size inb, bestV (mixVec u inb f7) (rowVec u f6) 63⟩]),
    ((View.whole cc0_scratch3).writes (Elt F) f9
      [⟨Rect.unit (s := S400) (k0_off3 u) S16.size inb, indexV (mixVec u inb f7) (rowVec u f6) 63⟩])
  isplitr
  · ipureintro
    exact lanes_extend (View.whole cc0_scratch2) u inb f8 _ (fun p => scanBest (blockProducts f6 f7 p) 63) (fun x => bestV_lane u inb f6 f7 x 63) h8
  isplitr
  · ipureintro
    exact lanes_extend (View.whole cc0_scratch3) u inb f9 _ (fun p => scanIdx (blockProducts f6 f7 p) 63) (fun x => indexV_lane u inb f6 f7 x 63) h9
  isplitl [H8] <;> iassumption

/-- A trip of the inner loop keeps the invariant, sixteen positions further. -/
theorem inner_step (d : Dev nD) (L : grid0.Coords) (t : Fin k0_t1_loop.trips) (h : k0_cond1 L t = 1#1) (u : Fin k0_t2_loop.trips)
    (f6 : S64x400.Idx → Elt F .f32) (f7 : S400.Idx → Elt F .f32) :
    inner d L f6 f7 u.val ⟨⟩
    ⊢ wp frame (wpE (defs₀ (F := F)) 𝒱₀ (V d (cV L) (jV L)) none) Set.univ
        (k0_t2_body L mixV (Memref.isWhole_whole _) panelV (Memref.isWhole_whole _) valV (Memref.isWhole_whole _) idxV (Memref.isWhole_whole _)
          rB (Memref.isWhole_whole _) mB (Memref.isWhole_whole _) vB (Memref.isWhole_whole _) iB (Memref.isWhole_whole _)
          cc0_scoped0 cc0_scoped1 cc0_scoped2 cc0_scoped3 t h u ⟨⟩)
        (inner d L f6 f7 (u.val + 1)) := by
  rw [inner]
  iintro ⟨H6, H7, %f8, %f9, %h8, %h9, H8, H9⟩
  ihave Hw := ((trip d L t h u f6 f7 f8 f9).trans (wp_mono _ _ _ fun _ => inner_extend d L u _ f6 f7 f8 f9 h8 h9)) $$ [H6 H7 H8 H9]
  · isplitl [H6]; · iexact H6
    isplitl [H7]; · iexact H7
    isplitl [H8] <;> iassumption
  iexact Hw

/-- A block fetched from the panel holds what the task's slice of the panel holds. -/
theorem staged_panel (d : Dev nD) (L : grid0.Coords) (t : Fin k0_t1_loop.trips) (h : k0_cond1 L t = 1#1) (fp : Buf (Elt F) (panelLoc d))
    (f6 : Buf (Elt F) ((V d (cV L) (jV L)).loc cc0_scratch0)) :
    (rB.view.loc (V d (cV L) (jV L)) ↦{fullShare} View.write (Elt F) rB.view f6
        (ReadAs.same.apply (View.read (Elt F) (panelSlice L t h).view fp)) Finset.univ : sProp 𝕄)
      ⊢ rB.view.loc (V d (cV L) (jV L)) ↦{fullShare} ((panelSlice L t h).view.read (Elt F) fp) :=
  Entails.of_eq (congrArg (fun f => (rB.view.loc (V d (cV L) (jV L)) ↦{fullShare} f : sProp 𝕄))
    (View.write_whole_univ (Val := Elt F) cc0_scratch0 f6 _))

/-- The fetched factors are what the task's slice of `mixed` holds. -/
theorem staged_mix (d : Dev nD) (L : grid0.Coords) (t : Fin k0_t1_loop.trips) (h : k0_cond1 L t = 1#1) (fm : Buf (Elt F) (mixLoc d))
    (f7 : Buf (Elt F) ((V d (cV L) (jV L)).loc cc0_scratch1)) :
    (mB.view.loc (V d (cV L) (jV L)) ↦{fullShare} View.write (Elt F) mB.view f7
        (ReadAs.same.apply (View.read (Elt F) (mixSlice L t h).view fm)) Finset.univ : sProp 𝕄)
      ⊢ mB.view.loc (V d (cV L) (jV L)) ↦{fullShare} ((mixSlice L t h).view.read (Elt F) fm) :=
  Entails.of_eq (congrArg (fun f => (mB.view.loc (V d (cV L) (jV L)) ↦{fullShare} f : sProp 𝕄))
    (View.write_whole_univ (Val := Elt F) cc0_scratch1 f7 _))

/-- Recording one more wait of the task's own keeps every recorded wait either an old one or one of its own. -/
theorem waits_grow {W W' : Waits sig (HIx 1)} (l : SemLoc sig) (h : ∀ p ∈ W', p ∈ W ∨ p.2 = none) :
    ∀ p ∈ insert (l, (none : HIx 1)) W', p ∈ W ∨ p.2 = none := fun p hp => by
  rcases Finset.mem_insert.mp hp with hp | hp
  · exact .inr (hp ▸ rfl)
  · exact h p hp

/-- One task: from read shares of the two arguments, the scratch buffers, the task's pieces of the two results and the
    four copies' counters at zero, the trip leaves the pooled values and the indices on the pieces. -/
theorem task (d : Dev nD) (L : grid0.Coords) (t : Fin k0_t1_loop.trips) (h : k0_cond1 L t = 1#1) (O : CellTallies nD τ sig (HIx 1)) (W : Waits sig (HIx 1))
    (q : PosShare TreeShare) (fm : Buf (Elt F) (mixLoc d)) (fp : Buf (Elt F) (panelLoc d))
    (f6 : Buf (Elt F) ((V d (cV L) (jV L)).loc cc0_scratch0)) (f7 : Buf (Elt F) ((V d (cV L) (jV L)).loc cc0_scratch1))
    (f8 : Buf (Elt F) ((V d (cV L) (jV L)).loc cc0_scratch2)) (f9 : Buf (Elt F) ((V d (cV L) (jV L)).loc cc0_scratch3))
    (fv : Buf (Elt F) (valLoc d)) (fi : Buf (Elt F) (idxLoc d)) (v1 : BitVec 32) :
    (iprop(Transfers.MayWaits (V d (cV L) (jV L)) (none : HIx 1) O
      ∗ (mixV.view.loc (V d (cV L) (jV L)) ↦{q} fm) ∗ (panelV.view.loc (V d (cV L) (jV L)) ↦{q} fp)
      ∗ (rB.view.loc (V d (cV L) (jV L)) ↦{fullShare} f6) ∗ (mB.view.loc (V d (cV L) (jV L)) ↦{fullShare} f7)
      ∗ (vB.view.loc (V d (cV L) (jV L)) ↦{fullShare} f8) ∗ (iB.view.loc (V d (cV L) (jV L)) ↦{fullShare} f9)
      ∗ ((valSlice L t h).view.loc (V d (cV L) (jV L)) ↦[(valSlice L t h).view.set]{fullShare} fv)
      ∗ ((idxSlice L t h).view.loc (V d (cV L) (jV L)) ↦[(idxSlice L t h).view.set]{fullShare} fi)
      ∗ semVal ((V d (cV L) (jV L), .dma cc0_scoped0.sem) : GSem nD τ sig) 0
      ∗ semVal ((V d (cV L) (jV L), .dma cc0_scoped1.sem) : GSem nD τ sig) 0
      ∗ semVal ((V d (cV L) (jV L), .dma cc0_scoped2.sem) : GSem nD τ sig) 0
      ∗ semVal ((V d (cV L) (jV L), .dma cc0_scoped3.sem) : GSem nD τ sig) 0
      ∗ owes (V d (cV L) (jV L)) O W) : sProp 𝕄)
    ⊢ wp frame (wpE (defs₀ (F := F)) 𝒱₀ (V d (cV L) (jV L)) none) Set.univ
        (k0_t1_body L mixV (Memref.isWhole_whole _) panelV (Memref.isWhole_whole _) valV (Memref.isWhole_whole _) idxV (Memref.isWhole_whole _)
          rB (Memref.isWhole_whole _) mB (Memref.isWhole_whole _) vB (Memref.isWhole_whole _) iB (Memref.isWhole_whole _)
          cc0_scoped0 cc0_scoped1 cc0_scoped2 cc0_scoped3 v1 t ⟨⟩)
        (fun _ => (iprop((mixV.view.loc (V d (cV L) (jV L)) ↦{q} fm) ∗ (panelV.view.loc (V d (cV L) (jV L)) ↦{q} fp)
          ∗ (∃ f, rB.view.loc (V d (cV L) (jV L)) ↦{fullShare} f) ∗ (∃ f, mB.view.loc (V d (cV L) (jV L)) ↦{fullShare} f)
          ∗ (∃ f, vB.view.loc (V d (cV L) (jV L)) ↦{fullShare} f) ∗ (∃ f, iB.view.loc (V d (cV L) (jV L)) ↦{fullShare} f)
          ∗ ((valSlice L t h).view.loc (V d (cV L) (jV L)) ↦[(valSlice L t h).view.set]{fullShare} pooled fm fp)
          ∗ ((idxSlice L t h).view.loc (V d (cV L) (jV L)) ↦[(idxSlice L t h).view.set]{fullShare} chosen fm fp)
          ∗ semVal ((V d (cV L) (jV L), .dma cc0_scoped0.sem) : GSem nD τ sig) 0
          ∗ semVal ((V d (cV L) (jV L), .dma cc0_scoped1.sem) : GSem nD τ sig) 0
          ∗ semVal ((V d (cV L) (jV L), .dma cc0_scoped2.sem) : GSem nD τ sig) 0
          ∗ semVal ((V d (cV L) (jV L), .dma cc0_scoped3.sem) : GSem nD τ sig) 0
          ∗ ∃ W', ⌜∀ p ∈ W', p ∈ W ∨ p.2 = none⌝ ∗ owes (V d (cV L) (jV L)) O W') : sProp 𝕄)) := by
  iintro ⟨#Hmw, Hm, Hp, H6, H7, H8, H9, Hv, Hi, S0, S1, S2, S3, HO⟩
  sl_unfold [k0_t1_body]
  sl_exec
  sl_unfold_run_names
  ihave H6' := (staged_panel d L t h fp f6) $$ H6
  ihave H7' := (staged_mix d L t h fm f7) $$ H7
  sl_for (inner d L ((panelSlice L t h).view.read (Elt F) fp) ((mixSlice L t h).view.read (Elt F) fm)) $$ [H6' H7' H8 H9]
  case region =>
    intro k _
    exact inner_step d L t h k _ _
  · unfold inner
    isplitl [H6']; · iexact H6'
    isplitl [H7']; · iexact H7'
    iexists f8, f9
    isplitr; · ipureintro; intro p hp; omega
    isplitr; · ipureintro; intro p hp; omega
    isplitl [H8] <;> iassumption
  iintro %_ HI
  unfold inner
  icases HI with ⟨H6, H7, %g8, %g9, %h8, %h9, H8, H9⟩
  sl_exec
  sl_unfold_run_names
  ihave Hv' := (Entails.of_eq (pointsTo_congr (valSlice_write L t h fm fp fv g8 fun p => h8 p p.isLt))) $$ Hv
  ihave Hi' := (Entails.of_eq (pointsTo_congr (idxSlice_write L t h fm fp fi g9 fun p => h9 p p.isLt))) $$ Hi
  sl_step
  isplitl [Hm]; · iexact Hm
  isplitl [Hp]; · iexact Hp
  isplitl [H6]; · iexists _; iexact H6
  isplitl [H7]; · iexists _; iexact H7
  isplitl [H8]; · iexists _; iexact H8
  isplitl [H9]; · iexists _; iexact H9
  isplitl [Hv']; · iexact Hv'
  isplitl [Hi']; · iexact Hi'
  isplitl [S0]; · iexact S0
  isplitl [S1]; · iexact S1
  isplitl [S2]; · iexact S2
  isplitl [S3]; · iexact S3
  iexists (insert (SemLoc.dma cc0_scoped3.sem, (none : HIx 1)) (insert (SemLoc.dma cc0_scoped2.sem, (none : HIx 1))
    (insert (SemLoc.dma cc0_scoped1.sem, (none : HIx 1)) (insert (SemLoc.dma cc0_scoped0.sem, (none : HIx 1)) W)))); isplitr
  · ipureintro
    exact waits_grow _ (waits_grow _ (waits_grow _ (waits_grow _ fun _ hp => .inl hp)))
  · iexact HO

end Cert.Proof.KernelIdeal

end
-- ==== Proof.KernelIdeal.Tile.lean ====
/-
  A worker's whole run: 47 trips of the outer loop, each a task or nothing, from the worker's pieces of the two results
  as they were to the pieces holding the pooled values and the indices.
-/
module

public import proofs.«01_k».proof.Proof.KernelIdeal.Task

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The worker's pieces -/

/-- The two pieces that the worker at `L` writes in trip `t`, at contents `fv` and `fi`. -/
def pieces (d : Dev nD) (L : grid0.Coords) (t : Fin k0_t1_loop.trips) (fv : Buf (Elt F) (valLoc d)) (fi : Buf (Elt F) (idxLoc d)) : sProp 𝕄 :=
  iprop((valLoc d ↦[valPiece L t]{fullShare} fv) ∗ (idxLoc d ↦[idxPiece L t]{fullShare} fi))

/-- All the worker's pieces before trip `k`: those of earlier trips hold the results, the others what they held. -/
def piecesAt (d : Dev nD) (L : grid0.Coords) (fm : Buf (Elt F) (mixLoc d)) (fp : Buf (Elt F) (panelLoc d)) (fv : Buf (Elt F) (valLoc d))
    (fi : Buf (Elt F) (idxLoc d)) (k : ℕ) : sProp 𝕄 :=
  bigSep Finset.univ fun t : Fin k0_t1_loop.trips =>
    pieces d L t (if t.val < k then pooled fm fp else fv) (if t.val < k then chosen fm fp else fi)

/-- Trip `t` finds its own pieces as they were, beside the rest. -/
theorem piecesAt_take (d : Dev nD) (L : grid0.Coords) (fm : Buf (Elt F) (mixLoc d)) (fp : Buf (Elt F) (panelLoc d)) (fv : Buf (Elt F) (valLoc d))
    (fi : Buf (Elt F) (idxLoc d)) (t : Fin k0_t1_loop.trips) :
    piecesAt d L fm fp fv fi t.val = iprop(pieces d L t fv fi
      ∗ bigSep (Finset.univ.erase t) fun j : Fin k0_t1_loop.trips =>
          pieces d L j (if j.val < t.val then pooled fm fp else fv) (if j.val < t.val then chosen fm fp else fi)) := by
  rw [piecesAt, SparseCore.bigSep_erase' (Finset.mem_univ t), if_neg (lt_irrefl _), if_neg (lt_irrefl _)]

/-- With its own pieces at the results, the same rest is what the next trip starts from. -/
theorem piecesAt_put (d : Dev nD) (L : grid0.Coords) (fm : Buf (Elt F) (mixLoc d)) (fp : Buf (Elt F) (panelLoc d)) (fv : Buf (Elt F) (valLoc d))
    (fi : Buf (Elt F) (idxLoc d)) (t : Fin k0_t1_loop.trips) :
    piecesAt d L fm fp fv fi (t.val + 1) = iprop(pieces d L t (pooled fm fp) (chosen fm fp)
      ∗ bigSep (Finset.univ.erase t) fun j : Fin k0_t1_loop.trips =>
          pieces d L j (if j.val < t.val then pooled fm fp else fv) (if j.val < t.val then chosen fm fp else fi)) := by
  rw [piecesAt, SparseCore.bigSep_erase' (Finset.mem_univ t), if_pos (Nat.lt_succ_self _), if_pos (Nat.lt_succ_self _)]
  refine congrArg (fun X : sProp 𝕄 => iprop(pieces d L t (pooled fm fp) (chosen fm fp) ∗ X)) (bigSep_congr fun j hj => ?_)
  have hne : j.val ≠ t.val := fun e => Finset.ne_of_mem_erase hj (Fin.ext e)
  have hiff : (j.val < t.val + 1) = (j.val < t.val) := propext ⟨fun h => by omega, fun h => by omega⟩
  simp only [hiff]

/-- A trip without a task has empty pieces: they hold the results as they stand. -/
theorem pieces_none (d : Dev nD) (L : grid0.Coords) (t : Fin k0_t1_loop.trips) (h : ¬ k0_cond1 L t = 1#1) (fv gv : Buf (Elt F) (valLoc d))
    (fi gi : Buf (Elt F) (idxLoc d)) : (pieces d L t fv fi : sProp 𝕄) = pieces d L t gv gi := by
  unfold pieces
  rw [pointsTo_congr (f := fv) (g := gv) fun i hi => absurd hi (by rw [valPiece_none L t h]; exact Finset.notMem_empty i),
    pointsTo_congr (f := fi) (g := gi) fun i hi => absurd hi (by rw [idxPiece_none L t h]; exact Finset.notMem_empty i)]

/-- The pieces of a task in the spelling of its slices. -/
theorem pieces_slices (d : Dev nD) (L : grid0.Coords) (t : Fin k0_t1_loop.trips) (h : k0_cond1 L t = 1#1) (fv : Buf (Elt F) (valLoc d))
    (fi : Buf (Elt F) (idxLoc d)) : (pieces d L t fv fi : sProp 𝕄)
      = iprop(((valSlice L t h).view.loc (V d (cV L) (jV L)) ↦[(valSlice L t h).view.set]{fullShare} fv)
          ∗ ((idxSlice L t h).view.loc (V d (cV L) (jV L)) ↦[(idxSlice L t h).view.set]{fullShare} fi)) := by
  rw [valSlice_set, idxSlice_set]
  rfl

/-! ## The outer loop -/

/-- What holds between the outer loop's trips. -/
def outer (d : Dev nD) (L : grid0.Coords) (O : CellTallies nD τ sig (HIx 1)) (W : Waits sig (HIx 1)) (q : PosShare TreeShare)
    (fm : Buf (Elt F) (mixLoc d)) (fp : Buf (Elt F) (panelLoc d)) (fv : Buf (Elt F) (valLoc d)) (fi : Buf (Elt F) (idxLoc d))
    (k : ℕ) (_ : PUnit) : sProp 𝕄 :=
  iprop(Transfers.MayWaits (V d (cV L) (jV L)) (none : HIx 1) O
    ∗ (mixV.view.loc (V d (cV L) (jV L)) ↦{q} fm) ∗ (panelV.view.loc (V d (cV L) (jV L)) ↦{q} fp)
    ∗ (∃ f, rB.view.loc (V d (cV L) (jV L)) ↦{fullShare} f) ∗ (∃ f, mB.view.loc (V d (cV L) (jV L)) ↦{fullShare} f)
    ∗ (∃ f, vB.view.loc (V d (cV L) (jV L)) ↦{fullShare} f) ∗ (∃ f, iB.view.loc (V d (cV L) (jV L)) ↦{fullShare} f)
    ∗ piecesAt d L fm fp fv fi k
    ∗ semVal ((V d (cV L) (jV L), .dma cc0_scoped0.sem) : GSem nD τ sig) 0
    ∗ semVal ((V d (cV L) (jV L), .dma cc0_scoped1.sem) : GSem nD τ sig) 0
    ∗ semVal ((V d (cV L) (jV L), .dma cc0_scoped2.sem) : GSem nD τ sig) 0
    ∗ semVal ((V d (cV L) (jV L), .dma cc0_scoped3.sem) : GSem nD τ sig) 0
    ∗ ∃ W', ⌜∀ p ∈ W', p ∈ W ∨ p.2 = none⌝ ∗ owes (V d (cV L) (jV L)) O W')

/-- A trip of the outer loop keeps the invariant: a task writes its pieces, a trip without a task does nothing. -/
theorem outer_step (d : Dev nD) (L : grid0.Coords) (O : CellTallies nD τ sig (HIx 1)) (W : Waits sig (HIx 1)) (q : PosShare TreeShare)
    (fm : Buf (Elt F) (mixLoc d)) (fp : Buf (Elt F) (panelLoc d)) (fv : Buf (Elt F) (valLoc d)) (fi : Buf (Elt F) (idxLoc d)) (v1 : BitVec 32)
    (t : Fin k0_t1_loop.trips) :
    outer d L O W q fm fp fv fi t.val ⟨⟩
    ⊢ wp frame (wpE (defs₀ (F := F)) 𝒱₀ (V d (cV L) (jV L)) none) Set.univ
        (k0_t1_body L mixV (Memref.isWhole_whole _) panelV (Memref.isWhole_whole _) valV (Memref.isWhole_whole _) idxV (Memref.isWhole_whole _)
          rB (Memref.isWhole_whole _) mB (Memref.isWhole_whole _) vB (Memref.isWhole_whole _) iB (Memref.isWhole_whole _)
          cc0_scoped0 cc0_scoped1 cc0_scoped2 cc0_scoped3 v1 t ⟨⟩)
        (outer d L O W q fm fp fv fi (t.val + 1)) := by
  unfold outer
  rw [piecesAt_take, piecesAt_put]
  by_cases h : k0_cond1 L t = 1#1
  · rw [pieces_slices d L t h, pieces_slices d L t h]
    iintro ⟨#Hmw, Hm, Hp, ⟨%f6, H6⟩, ⟨%f7, H7⟩, ⟨%f8, H8⟩, ⟨%f9, H9⟩, ⟨⟨Hv, Hi⟩, Hrest⟩, S0, S1, S2, S3, %W', %hW', HO⟩
    iapply (wp_wand_r frame (wpE (defs₀ (F := F)) 𝒱₀ (V d (cV L) (jV L)) none) Set.univ)
    isplitl [Hm Hp H6 H7 H8 H9 Hv Hi S0 S1 S2 S3 HO]
    · iapply (task d L t h O W' q fm fp f6 f7 f8 f9 fv fi v1)
      isplitl []; · iexact Hmw
      isplitl [Hm]; · iexact Hm
      isplitl [Hp]; · iexact Hp
      isplitl [H6]; · iexact H6
      isplitl [H7]; · iexact H7
      isplitl [H8]; · iexact H8
      isplitl [H9]; · iexact H9
      isplitl [Hv]; · iexact Hv
      isplitl [Hi]; · iexact Hi
      isplitl [S0]; · iexact S0
      isplitl [S1]; · iexact S1
      isplitl [S2]; · iexact S2
      isplitl [S3] <;> iassumption
    iintro %_ ⟨Hm, Hp, H6, H7, H8, H9, Hv, Hi, S0, S1, S2, S3, %W'', %hW'', HO⟩
    isplitl []; · iexact Hmw
    isplitl [Hm]; · iexact Hm
    isplitl [Hp]; · iexact Hp
    isplitl [H6]; · iexact H6
    isplitl [H7]; · iexact H7
    isplitl [H8]; · iexact H8
    isplitl [H9]; · iexact H9
    isplitl [Hv Hi Hrest]
    · isplitl [Hv Hi]
      · isplitl [Hv] <;> iassumption
      · iexact Hrest
    isplitl [S0]; · iexact S0
    isplitl [S1]; · iexact S1
    isplitl [S2]; · iexact S2
    isplitl [S3]; · iexact S3
    iexists W''; isplitr
    · ipureintro
      intro p hp
      rcases hW'' p hp with hp | hp
      · exact hW' p hp
      · exact .inr hp
    · iexact HO
  · rw [pieces_none d L t h fv (pooled fm fp) fi (chosen fm fp)]
    iintro ⟨#Hmw, Hm, Hp, H6, H7, H8, H9, Hpc, S0, S1, S2, S3, HO⟩
    sl_unfold [k0_t1_body]
    sl_exec
    sl_step
    isplitl []; · iexact Hmw
    isplitl [Hm]; · iexact Hm
    isplitl [Hp]; · iexact Hp
    isplitl [H6]; · iexact H6
    isplitl [H7]; · iexact H7
    isplitl [H8]; · iexact H8
    isplitl [H9]; · iexact H9
    isplitl [Hpc]; · iexact Hpc
    isplitl [S0]; · iexact S0
    isplitl [S1]; · iexact S1
    isplitl [S2]; · iexact S2
    isplitl [S3] <;> iassumption

end Cert.Proof.KernelIdeal

end
-- ==== Proof.KernelIdeal.Launch.lean ====
/-
  The launch: how the four arrays are dealt among the 32 workers, what a worker's whole run leaves, and the program's run
  from any memory, the two results holding the pooled values and the indices.
-/
module

public import proofs.«01_k».proof.Proof.KernelIdeal.Tile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The deal -/

/-- The coordinates of the worker on core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The worker's share of the two arguments, which all workers read. -/
def share (c : Fin (grid0.bound 0)) (s : Fin (grid0.bound 1)) : PosShare TreeShare :=
  Transfers.dealOf (Transfers.dealOf fullShare Finset.univ c) Finset.univ s

/-- What the worker at `(c, s)` holds of the four arrays: its share of the arguments, and its own pieces of the results. -/
def worker (d : Dev nD) (c : Fin (grid0.bound 0)) (s : Fin (grid0.bound 1)) (fm : Buf (Elt F) (mixLoc d)) (fp : Buf (Elt F) (panelLoc d))
    (fv : Buf (Elt F) (valLoc d)) (fi : Buf (Elt F) (idxLoc d)) : sProp 𝕄 :=
  iprop((mixLoc d ↦{share c s} fm) ∗ (panelLoc d ↦{share c s} fp)
    ∗ bigSep Finset.univ fun t : Fin k0_t1_loop.trips => pieces d (coordsV c s) t fv fi)

/-- An array held whole is every worker's share of it. -/
theorem whole_shares (ℓ : Loc nD τ sig) (f : Buf (Elt F) ℓ) :
    (ℓ ↦{fullShare} f : sProp 𝕄) = bigSep Finset.univ fun c : Fin (grid0.bound 0) => bigSep Finset.univ fun s : Fin (grid0.bound 1) => ℓ ↦{share c s} f :=
  (Transfers.pointsTo_deal (Finset.univ : Finset (Fin (grid0.bound 0))) ⟨(0 : Fin 2), Finset.mem_univ _⟩ fullShare).trans
    (bigSep_congr fun c _ => Transfers.pointsTo_deal (Finset.univ : Finset (Fin (grid0.bound 1))) ⟨(0 : Fin 16), Finset.mem_univ _⟩ _)

/-- Core, subcore and trip. -/
abbrev Turn : Type := Fin (grid0.bound 0) × Fin (grid0.bound 1) × Fin k0_t1_loop.trips

/-- The number of the task a turn takes up. -/
def turnNo (x : Turn) : ℕ := taskNo (coordsV x.1 x.2.1) x.2.2

/-- No two turns take up the same task. -/
theorem turnNo_injective : Function.Injective turnNo := by
  rintro ⟨c, s, t⟩ ⟨c', s', t'⟩ h
  have h' : c.val + 2 * s.val + 32 * t.val = c'.val + 2 * s'.val + 32 * t'.val := h
  have hc : c.val < 2 := c.isLt
  have hc' : c'.val < 2 := c'.isLt
  have hs : s.val < 16 := s.isLt
  have hs' : s'.val < 16 := s'.isLt
  have ec : c = c' := Fin.ext (by omega)
  have es : s = s' := Fin.ext (by omega)
  have et : t = t' := Fin.ext (by omega)
  rw [ec, es, et]

/-- Every task is taken up in some turn. -/
theorem turnNo_covers (n : ℕ) (h : n < 1500) : ∃ x : Turn, turnNo x = n :=
  ⟨⟨(⟨n % 2, Nat.mod_lt _ (by omega)⟩ : Fin 2), (⟨n / 2 % 16, Nat.mod_lt _ (by omega)⟩ : Fin 16),
      ⟨n / 32, lt_of_lt_of_eq (show n / 32 < 47 by omega) (by decide)⟩⟩,
    show n % 2 + 2 * (n / 2 % 16) + 32 * (n / 32) = n by omega⟩

/-- The 400 positions around position `l` of panel `b` in batch row `a` are some turn's. -/
theorem turn_of (a b l : ℕ) (ha : a < 4) (hb : b < 3) (hl : l < 50000) : ∃ x : Turn, (a * 3 + b) * 125 + l / 400 = turnNo x :=
  (turnNo_covers ((a * 3 + b) * 125 + l / 400) (by omega)).imp fun _ h => h.symm

/-- Sets of which every point is in one cover everything. -/
theorem cover_univ {α ι : Type} [Fintype α] [DecidableEq α] [Fintype ι] (f : ι → Finset α) (h : ∀ y, ∃ x, y ∈ f x) :
    (Finset.univ : Finset ι).biUnion f = Finset.univ :=
  Finset.eq_univ_of_forall fun y => Finset.mem_biUnion.mpr ((h y).imp fun x hx => ⟨Finset.mem_univ x, hx⟩)

/-- Every position of the pooled values is some turn's. -/
theorem val_turn (y : S4x3x1x50000.Idx) : ∃ x : Turn, y ∈ valPiece (coordsV x.1 x.2.1) x.2.2 := by
  have h0 : (y 0).val < 4 := (y 0).isLt
  have h1 : (y 1).val < 3 := (y 1).isLt
  have h3 : (y 3).val < 50000 := (y 3).isLt
  have h := turn_of (y 0).val (y 1).val (y 3).val h0 h1 h3
  exact h.imp fun x hx => Finset.mem_filter.mpr ⟨Finset.mem_univ _, hx⟩

theorem val_cover : (Finset.univ : Finset Turn).biUnion (fun x => valPiece (coordsV x.1 x.2.1) x.2.2) = Finset.univ :=
  cover_univ _ val_turn

/-- The pooled values, held whole, are all turns' pieces. -/
theorem val_pieces (d : Dev nD) (f : Buf (Elt F) (valLoc d)) :
    (valLoc d ↦{fullShare} f : sProp 𝕄) = bigSep Finset.univ fun c : Fin (grid0.bound 0) => bigSep Finset.univ fun s : Fin (grid0.bound 1) =>
      bigSep Finset.univ fun t : Fin k0_t1_loop.trips => valLoc d ↦[valPiece (coordsV c s) t]{fullShare} f := by
  have hdisj : ∀ x ∈ (Finset.univ : Finset Turn), ∀ x' ∈ (Finset.univ : Finset Turn), x ≠ x' →
      Disjoint (valPiece (coordsV x.1 x.2.1) x.2.2) (valPiece (coordsV x'.1 x'.2.1) x'.2.2) := fun x _ x' _ hne =>
    Finset.disjoint_left.mpr fun y hy hy' => hne (turnNo_injective ((Finset.mem_filter.mp hy).2.symm.trans (Finset.mem_filter.mp hy').2))
  have h := pointsTo_biUnion (Ix := HIx 1) (Val := Elt F) (Name := ℕ) (U := UU) (Lvl := ℕ) (ℓ := valLoc d) (q := fullShare) (f := f)
    (Finset.univ : Finset Turn) (fun x => valPiece (coordsV x.1 x.2.1) x.2.2) hdisj
  rw [val_cover] at h
  refine h.trans ((bigSep_univ_prod _).trans (bigSep_congr fun c _ => bigSep_univ_prod _))

/-- Every position of the indices is some turn's. -/
theorem idx_turn (y : S4x3x50000.Idx) : ∃ x : Turn, y ∈ idxPiece (coordsV x.1 x.2.1) x.2.2 := by
  have h0 : (y 0).val < 4 := (y 0).isLt
  have h1 : (y 1).val < 3 := (y 1).isLt
  have h2 : (y 2).val < 50000 := (y 2).isLt
  have h := turn_of (y 0).val (y 1).val (y 2).val h0 h1 h2
  exact h.imp fun x hx => Finset.mem_filter.mpr ⟨Finset.mem_univ _, hx⟩

theorem idx_cover : (Finset.univ : Finset Turn).biUnion (fun x => idxPiece (coordsV x.1 x.2.1) x.2.2) = Finset.univ :=
  cover_univ _ idx_turn

/-- The indices, held whole, are all turns' pieces. -/
theorem idx_pieces (d : Dev nD) (f : Buf (Elt F) (idxLoc d)) :
    (idxLoc d ↦{fullShare} f : sProp 𝕄) = bigSep Finset.univ fun c : Fin (grid0.bound 0) => bigSep Finset.univ fun s : Fin (grid0.bound 1) =>
      bigSep Finset.univ fun t : Fin k0_t1_loop.trips => idxLoc d ↦[idxPiece (coordsV c s) t]{fullShare} f := by
  have hdisj : ∀ x ∈ (Finset.univ : Finset Turn), ∀ x' ∈ (Finset.univ : Finset Turn), x ≠ x' →
      Disjoint (idxPiece (coordsV x.1 x.2.1) x.2.2) (idxPiece (coordsV x'.1 x'.2.1) x'.2.2) := fun x _ x' _ hne =>
    Finset.disjoint_left.mpr fun y hy hy' => hne (turnNo_injective ((Finset.mem_filter.mp hy).2.symm.trans (Finset.mem_filter.mp hy').2))
  have h := pointsTo_biUnion (Ix := HIx 1) (Val := Elt F) (Name := ℕ) (U := UU) (Lvl := ℕ) (ℓ := idxLoc d) (q := fullShare) (f := f)
    (Finset.univ : Finset Turn) (fun x => idxPiece (coordsV x.1 x.2.1) x.2.2) hdisj
  rw [idx_cover] at h
  refine h.trans ((bigSep_univ_prod _).trans (bigSep_congr fun c _ => bigSep_univ_prod _))

/-- The four arrays, held whole, are what all workers hold of them. -/
theorem arrays_deal (d : Dev nD) (fm : Buf (Elt F) (mixLoc d)) (fp : Buf (Elt F) (panelLoc d)) (fv : Buf (Elt F) (valLoc d))
    (fi : Buf (Elt F) (idxLoc d)) :
    (iprop((mixLoc d ↦{fullShare} fm) ∗ (panelLoc d ↦{fullShare} fp) ∗ (valLoc d ↦{fullShare} fv) ∗ idxLoc d ↦{fullShare} fi) : sProp 𝕄)
      = bigSep Finset.univ fun c : Fin (grid0.bound 0) => bigSep Finset.univ fun s : Fin (grid0.bound 1) => worker d c s fm fp fv fi := by
  rw [whole_shares (mixLoc d), whole_shares (panelLoc d), val_pieces, idx_pieces]
  simp only [worker, pieces, bigSep_sep']

/-! ## What the handshakes carry -/

variable (m : (ℓ : Loc nD τ sig) → Buf (Elt F) ℓ)

/-- What a worker is handed: its part of the four arrays as they were. -/
abbrev handed (d : Dev nD) (c : Fin (grid0.bound 0)) (s : Fin (grid0.bound 1)) : sProp 𝕄 :=
  worker d c s (m (mixLoc d)) (m (panelLoc d)) (m (valLoc d)) (m (idxLoc d))
/-- What a worker brings back: its pieces of the results at the pooled values and the indices. -/
abbrev brought (d : Dev nD) (c : Fin (grid0.bound 0)) (s : Fin (grid0.bound 1)) : sProp 𝕄 :=
  worker d c s (m (mixLoc d)) (m (panelLoc d)) (pooled (m (mixLoc d)) (m (panelLoc d))) (chosen (m (mixLoc d)) (m (panelLoc d)))

instance worker_storable (d : Dev nD) (c : Fin (grid0.bound 0)) (s : Fin (grid0.bound 1)) (fm : Buf (Elt F) (mixLoc d)) (fp : Buf (Elt F) (panelLoc d))
    (fv : Buf (Elt F) (valLoc d)) (fi : Buf (Elt F) (idxLoc d)) : BI.Storable (upEmb : UEmb _ 𝕄) (worker d c s fm fp fv fi) := by
  unfold worker pieces; infer_instance

theorem nCore_zero : (K (F := F)).nCore 0 = grid0.bound 0 := rfl
theorem nSub_zero : (K (F := F)).nSub 0 = grid0.bound 1 := rfl
/-- The call's cores and subcores, as the grid's. -/
abbrev core (c : Fin ((K (F := F)).nCore 0)) : Fin (grid0.bound 0) := Fin.cast nCore_zero c
abbrev sub (s : Fin ((K (F := F)).nSub 0)) : Fin (grid0.bound 1) := Fin.cast nSub_zero s

/-- What a core's workers are handed, and what they bring back. -/
def coreHanded (d : Dev nD) (c : Fin (grid0.bound 0)) : sProp 𝕄 := bigSep Finset.univ fun s : Fin (grid0.bound 1) => handed m d c s
def coreBrought (d : Dev nD) (c : Fin (grid0.bound 0)) : sProp 𝕄 := bigSep Finset.univ fun s : Fin (grid0.bound 1) => brought m d c s

instance coreHanded_storable (d : Dev nD) (c : Fin (grid0.bound 0)) : BI.Storable (upEmb : UEmb _ 𝕄) (coreHanded m d c) := by
  unfold coreHanded; infer_instance
instance coreBrought_storable (d : Dev nD) (c : Fin (grid0.bound 0)) : BI.Storable (upEmb : UEmb _ 𝕄) (coreBrought m d c) := by
  unfold coreBrought; infer_instance

theorem bigSep_subs (Φ : Fin (grid0.bound 1) → sProp 𝕄) :
    (bigSep Finset.univ fun s : Fin ((K (F := F)).nSub 0) => Φ (sub (F := F) s)) = bigSep Finset.univ Φ := rfl
theorem bigSep_cores (Φ : Fin (grid0.bound 0) → sProp 𝕄) :
    (bigSep Finset.univ fun c : Fin ((K (F := F)).nCore 0) => Φ (core (F := F) c)) = bigSep Finset.univ Φ := rfl

/-- The one call hands each core what its workers are handed, and takes back what they bring. -/
def P : (K (F := F)).Pay (nD := nD) (Val := Elt F) (Name := ℕ) (U := UU) where
  st := fun q d c => match q with | 0 => coreHanded m d (core (F := F) c)
  dn := fun q d c => match q with | 0 => coreBrought m d (core (F := F) c)
  go := fun q d c i => match q with | 0 => handed m d (core (F := F) c) (sub (F := F) i)
  td := fun q d c i => match q with | 0 => brought m d (core (F := F) c) (sub (F := F) i)
  x := fun _ _ => iprop(emp)

instance P_storable : (P (F := F) m).IsStorable where
  st q d c := match q with
    | 0 => (inferInstance : BI.Storable (upEmb : UEmb _ 𝕄) (coreHanded m d (core (F := F) c)))
  dn q d c := match q with
    | 0 => (inferInstance : BI.Storable (upEmb : UEmb _ 𝕄) (coreBrought m d (core (F := F) c)))
  go q d c i := match q with
    | 0 => (inferInstance : BI.Storable (upEmb : UEmb _ 𝕄) (handed m d (core (F := F) c) (sub (F := F) i)))
  td q d c i := match q with
    | 0 => (inferInstance : BI.Storable (upEmb : UEmb _ 𝕄) (brought m d (core (F := F) c) (sub (F := F) i)))

/-! ## A worker's run -/

section Worker

variable (d : Dev nD) (L : grid0.Coords)

/-- The cells of the worker's four copies. -/
abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)
abbrev cell3 : GSem nD τ sig := (V d (cV L) (jV L), .dma cc0_scoped3.sem)

/-- The worker's own semaphores at zero: the four cells of its copies, and the rest. -/
theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L)) fun g => semVal g 0) := by
  have m0 : cell0 d L ∈ ownCells (V d (cV L) (jV L)) := mem_ownCells.mpr ⟨rfl, by show (SemLoc.dma cc0_scoped0.sem : SemLoc sig).isScoped .scVector = true; decide⟩
  have m1 : cell1 d L ∈ ownCells (V d (cV L) (jV L)) := mem_ownCells.mpr ⟨rfl, by show (SemLoc.dma cc0_scoped1.sem : SemLoc sig).isScoped .scVector = true; decide⟩
  have m2 : cell2 d L ∈ ownCells (V d (cV L) (jV L)) := mem_ownCells.mpr ⟨rfl, by show (SemLoc.dma cc0_scoped2.sem : SemLoc sig).isScoped .scVector = true; decide⟩
  have m3 : cell3 d L ∈ ownCells (V d (cV L) (jV L)) := mem_ownCells.mpr ⟨rfl, by show (SemLoc.dma cc0_scoped3.sem : SemLoc sig).isScoped .scVector = true; decide⟩
  have n10 : cell1 d L ≠ cell0 d L := fun e =>
    absurd (congrArg Prod.snd e) (show (SemLoc.dma cc0_scoped1.sem : SemLoc sig) ≠ .dma cc0_scoped0.sem by decide)
  have n20 : cell2 d L ≠ cell0 d L := fun e =>
    absurd (congrArg Prod.snd e) (show (SemLoc.dma cc0_scoped2.sem : SemLoc sig) ≠ .dma cc0_scoped0.sem by decide)
  have n21 : cell2 d L ≠ cell1 d L := fun e =>
    absurd (congrArg Prod.snd e) (show (SemLoc.dma cc0_scoped2.sem : SemLoc sig) ≠ .dma cc0_scoped1.sem by decide)
  have n30 : cell3 d L ≠ cell0 d L := fun e =>
    absurd (congrArg Prod.snd e) (show (SemLoc.dma cc0_scoped3.sem : SemLoc sig) ≠ .dma cc0_scoped0.sem by decide)
  have n31 : cell3 d L ≠ cell1 d L := fun e =>
    absurd (congrArg Prod.snd e) (show (SemLoc.dma cc0_scoped3.sem : SemLoc sig) ≠ .dma cc0_scoped1.sem by decide)
  have n32 : cell3 d L ≠ cell2 d L := fun e =>
    absurd (congrArg Prod.snd e) (show (SemLoc.dma cc0_scoped3.sem : SemLoc sig) ≠ .dma cc0_scoped2.sem by decide)
  unfold SparseCore.Cfg.ownSems0
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-- The worker's own buffers, each at some contents: the four scratch buffers, and the rest. -/
theorem ownBufs_V :
    (ownBufs (V d (cV L) (jV L)) : sProp 𝕄)
      = iprop((∃ f, rB.view.loc (V d (cV L) (jV L)) ↦{fullShare} f) ∗ (∃ f, mB.view.loc (V d (cV L) (jV L)) ↦{fullShare} f)
          ∗ (∃ f, vB.view.loc (V d (cV L) (jV L)) ↦{fullShare} f) ∗ (∃ f, iB.view.loc (V d (cV L) (jV L)) ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have ne {b b' : Ref sig .scVector} (h : b ≠ b') : (Proc.scVector (cV L) (jV L)).devRef b ≠ (Proc.scVector (cV L) (jV L)).devRef b' :=
    fun e => h (Proc.devRef_injective _ e)
  have m0 : (Proc.scVector (cV L) (jV L)).devRef cc0_scratch0 ∈ ownRefs (τ := τ) (.scVector (cV L) (jV L)) := SparseCore.Cfg.mem_ownRefs_of_owner rfl
  have m1 : (Proc.scVector (cV L) (jV L)).devRef cc0_scratch1 ∈ ownRefs (τ := τ) (.scVector (cV L) (jV L)) := SparseCore.Cfg.mem_ownRefs_of_owner rfl
  have m2 : (Proc.scVector (cV L) (jV L)).devRef cc0_scratch2 ∈ ownRefs (τ := τ) (.scVector (cV L) (jV L)) := SparseCore.Cfg.mem_ownRefs_of_owner rfl
  have m3 : (Proc.scVector (cV L) (jV L)).devRef cc0_scratch3 ∈ ownRefs (τ := τ) (.scVector (cV L) (jV L)) := SparseCore.Cfg.mem_ownRefs_of_owner rfl
  unfold SparseCore.Cfg.ownBufs
  refine (SparseCore.bigSep_erase' m0).trans ?_
  rw [SparseCore.bigSep_erase' (Finset.mem_erase.mpr ⟨ne (show (cc0_scratch1 : Ref sig .scVector) ≠ cc0_scratch0 by decide), m1⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), m2⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide), m3⟩⟩⟩)]

/-- Before the first trip all pieces are as they were. -/
theorem piecesAt_first (fm : Buf (Elt F) (mixLoc d)) (fp : Buf (Elt F) (panelLoc d)) (fv : Buf (Elt F) (valLoc d)) (fi : Buf (Elt F) (idxLoc d)) :
    piecesAt d L fm fp fv fi 0 = bigSep Finset.univ fun t : Fin k0_t1_loop.trips => pieces d L t fv fi :=
  bigSep_congr fun t _ => by rw [if_neg (Nat.not_lt_zero _), if_neg (Nat.not_lt_zero _)]

/-- After the last trip all pieces hold the results. -/
theorem piecesAt_last (fm : Buf (Elt F) (mixLoc d)) (fp : Buf (Elt F) (panelLoc d)) (fv : Buf (Elt F) (valLoc d)) (fi : Buf (Elt F) (idxLoc d)) :
    piecesAt d L fm fp fv fi k0_t1_loop.trips = bigSep Finset.univ fun t : Fin k0_t1_loop.trips => pieces d L t (pooled fm fp) (chosen fm fp) :=
  bigSep_congr fun t _ => by rw [if_pos t.isLt, if_pos t.isLt]

/-- The worker's body, from its share of the arguments and its pieces of the results: the pieces end at the pooled values
    and the indices, everything else is given back. -/
theorem tile_body (hF : (K (F := F)).Facts) (q : PosShare TreeShare) (fm : Buf (Elt F) (mixLoc d)) (fp : Buf (Elt F) (panelLoc d))
    (fv : Buf (Elt F) (valLoc d)) (fi : Buf (Elt F) (idxLoc d)) (O : CellTallies nD τ sig (HIx 1)) (W : Waits sig (HIx 1)) (hO : ∀ g, O g none = 0) :
    iprop(levAts (K (F := F)).L (K (F := F)).lev ∗ emp
        ∗ ((mixLoc d ↦{q} fm) ∗ (panelLoc d ↦{q} fp) ∗ bigSep Finset.univ fun t : Fin k0_t1_loop.trips => pieces d L t fv fi)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L mixV (Memref.isWhole_whole _) panelV (Memref.isWhole_whole _) valV (Memref.isWhole_whole _) idxV (Memref.isWhole_whole _)
            rB (Memref.isWhole_whole _) mB (Memref.isWhole_whole _) vB (Memref.isWhole_whole _) iB (Memref.isWhole_whole _)
            cc0_scoped0 cc0_scoped1 cc0_scoped2 cc0_scoped3)
          fun _ => iprop(((mixLoc d ↦{q} fm) ∗ (panelLoc d ↦{q} fp)
              ∗ bigSep Finset.univ fun t : Fin k0_t1_loop.trips => pieces d L t (pooled fm fp) (chosen fm fp))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V,
    ← piecesAt_first d L fm fp fv fi, ← piecesAt_last d L fm fp fv fi]
  iintro ⟨#Hlv, -, ⟨Hm, Hp, Ht⟩, ⟨H6, H7, H8, H9, Hbufs⟩, ⟨S0, S1, S2, S3, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  sl_unfold [cc0__sc_body]
  sl_exec
  sl_for (outer d L O W q fm fp fv fi) $$ [Hmw Hm Hp H6 H7 H8 H9 Ht S0 S1 S2 S3 HO]
  case region => intro k _; exact outer_step d L O W q fm fp fv fi _ k
  · unfold outer
    isplitl []; · iexact Hmw
    isplitl [Hm]; · iexact Hm
    isplitl [Hp]; · iexact Hp
    isplitl [H6]; · iexact H6
    isplitl [H7]; · iexact H7
    isplitl [H8]; · iexact H8
    isplitl [H9]; · iexact H9
    isplitl [Ht]; · iexact Ht
    isplitl [S0]; · iexact S0
    isplitl [S1]; · iexact S1
    isplitl [S2]; · iexact S2
    isplitl [S3]; · iexact S3
    iexists W; isplitr; · ipureintro; exact fun p hp => .inl hp
    iexact HO
  iintro %acc H
  unfold outer
  icases H with ⟨-, Hm, Hp, H6, H7, H8, H9, Ht, S0, S1, S2, S3, %W', %hW', HO⟩
  sl_exec
  sl_step
  isplitl [Hm Hp Ht]
  · isplitl [Hm]; · iexact Hm
    isplitl [Hp]; · iexact Hp
    iexact Ht
  isplitl [H6 H7 H8 H9 Hbufs]
  · isplitl [H6]; · iexact H6
    isplitl [H7]; · iexact H7
    isplitl [H8]; · iexact H8
    isplitl [H9]; · iexact H9
    iexact Hbufs
  isplitl [S0 S1 S2 S3 Hsems]
  · isplitl [S0]; · iexact S0
    isplitl [S1]; · iexact S1
    isplitl [S2]; · iexact S2
    isplitl [S3]; · iexact S3
    iexact Hsems
  iexists W'; isplitr
  · ipureintro; exact fun p hp => (hW' p hp).imp id .inl
  iexact HO

theorem defs₀_vector (c : Fin τ.nSC) (s : Fin τ.nSub) :
    defs₀ (F := F) (.scVector c s) 0 ()
      = SparseCore.onTile hcore0 hsub0 (fun c s => cc0__sc_body (coordsV c s)
          mixV (Memref.isWhole_whole _) panelV (Memref.isWhole_whole _) valV (Memref.isWhole_whole _) idxV (Memref.isWhole_whole _)
          rB (Memref.isWhole_whole _) mB (Memref.isWhole_whole _) vB (Memref.isWhole_whole _) iB (Memref.isWhole_whole _)
          cc0_scoped0 cc0_scoped1 cc0_scoped2 cc0_scoped3) ⟨⟩ c s := rfl

/-- Every worker's body does what the handshakes ask of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (share ⟨_, hci.1⟩ ⟨_, hci.2⟩) (m (mixLoc d)) (m (panelLoc d)) (m (valLoc d)) (m (idxLoc d)) O W hO

end Worker

/-- A core's part of the call is its workers' parts, both ways. -/
theorem vecSplit : (K (F := F)).VecSplit' (P m) 0 := by
  intro d c
  show coreHanded m d (core (F := F) c) ⊢ |={Set.univ}=> iprop(
      (bigSep Finset.univ fun s : Fin ((K (F := F)).nSub 0) => handed m d (core (F := F) c) (sub (F := F) s))
      ∗ ((bigSep Finset.univ fun s : Fin ((K (F := F)).nSub 0) => brought m d (core (F := F) c) (sub (F := F) s)) -∗ coreBrought m d (core (F := F) c)))
  rw [bigSep_subs (F := F) (fun s => handed m d (core (F := F) c) s), bigSep_subs (F := F) (fun s => brought m d (core (F := F) c) s)]
  unfold coreHanded coreBrought
  iintro H; imodintro
  isplitl [H]; · iexact H
  iintro H; iexact H

/-! ## The launch element: the handshakes' rounds, and nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  have hd : (bigSep Finset.univ fun _ : Dev nD => iprop(emp)) = (iprop(emp) : sProp 𝕄) := bigSep_emp_const _
  unfold u₀
  rw [hx, hd]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

variable (ρ : Dev nD → PrngReg)

theorem unscopedBufs_eq (d : Dev nD) (W : (b : Ref sig .tc) → Buf (Elt F) ((d.tc : Thread nD τ).loc b)) :
    (unscopedBufs d W : sProp 𝕄)
      = iprop((mixLoc d ↦{fullShare} W main_arg0) ∗ (panelLoc d ↦{fullShare} W main_arg1) ∗ (valLoc d ↦{fullShare} W main_v0_0) ∗ idxLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

/-- What @main ends with: the arguments as they were, the results at the pooled values and the indices. -/
abbrev FIN (d : Dev nD) : sProp 𝕄 :=
  iprop((mixLoc d ↦{fullShare} m (mixLoc d)) ∗ (panelLoc d ↦{fullShare} m (panelLoc d))
    ∗ (valLoc d ↦{fullShare} pooled (m (mixLoc d)) (m (panelLoc d))) ∗ idxLoc d ↦{fullShare} chosen (m (mixLoc d)) (m (panelLoc d)))

/-- The four arrays as they were are what the call takes. -/
theorem st0_eq (d : Dev nD) :
    (bigSep Finset.univ fun c : Fin ((K (F := F)).nCore 0) => (P m).st 0 d c)
      = (iprop((mixLoc d ↦{fullShare} m (mixLoc d)) ∗ (panelLoc d ↦{fullShare} m (panelLoc d)) ∗ (valLoc d ↦{fullShare} m (valLoc d))
          ∗ idxLoc d ↦{fullShare} m (idxLoc d)) : sProp 𝕄) := by
  show (bigSep Finset.univ fun c : Fin ((K (F := F)).nCore 0) => coreHanded m d (core (F := F) c)) = _
  rw [bigSep_cores (F := F) (fun c => coreHanded m d c), arrays_deal]
  rfl
/-- What the call brings back is the arrays with the results written. -/
theorem dn0_eq (d : Dev nD) : (bigSep Finset.univ fun c : Fin ((K (F := F)).nCore 0) => (P m).dn 0 d c) = FIN m d := by
  show (bigSep Finset.univ fun c : Fin ((K (F := F)).nCore 0) => coreBrought m d (core (F := F) c)) = _
  rw [bigSep_cores (F := F) (fun c => coreBrought m d c), FIN, arrays_deal]
  rfl

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]; iexact Harr
  iintro ⟨Hst, Hdn⟩
  ihave Hfin := (Entails.of_eq (dn0_eq m d)) $$ Hdn
  imodintro
  isplitl [Hst]; · iexact Hst
  isplitl [Hfin]; · iexact Hfin
  isplitl [Hb] <;> iassumption

/-- What a final memory holds on device `d`. -/
def fq (d : Dev nD) (s' : Phys nD τ sig (Elt F)) : Prop :=
  s'.mem.mem (mixLoc d) = m (mixLoc d) ∧ s'.mem.mem (panelLoc d) = m (panelLoc d)
    ∧ s'.mem.mem (valLoc d) = pooled (m (mixLoc d)) (m (panelLoc d)) ∧ s'.mem.mem (idxLoc d) = chosen (m (mixLoc d)) (m (panelLoc d))

theorem hfin (d : Dev nD) (s' : Phys nD τ sig (Elt F)) : iprop(FIN m d ∗ SI s') ⊢ (⌜fq m d s'⌝ : sProp 𝕄) := by
  iintro ⟨⟨Hm, Hp, Hv, Hi⟩, HSI⟩
  ihave H := (persistent_entails_right (SI_pointsTo_agree (st := s') (ℓ := mixLoc d) (I := Finset.univ) (q := fullShare) (f := m (mixLoc d)))) $$ [HSI Hm]
  · isplitl [HSI] <;> iassumption
  icases H with ⟨%hm, HSI, -⟩
  ihave H := (persistent_entails_right (SI_pointsTo_agree (st := s') (ℓ := panelLoc d) (I := Finset.univ) (q := fullShare) (f := m (panelLoc d)))) $$ [HSI Hp]
  · isplitl [HSI] <;> iassumption
  icases H with ⟨%hp, HSI, -⟩
  ihave H := (persistent_entails_right (SI_pointsTo_agree (st := s') (ℓ := valLoc d) (I := Finset.univ) (q := fullShare)
    (f := pooled (m (mixLoc d)) (m (panelLoc d))))) $$ [HSI Hv]
  · isplitl [HSI] <;> iassumption
  icases H with ⟨%hv, HSI, -⟩
  ihave H := (SI_pointsTo_agree (st := s') (ℓ := idxLoc d) (I := Finset.univ) (q := fullShare) (f := chosen (m (mixLoc d)) (m (panelLoc d)))) $$ [HSI Hi]
  · isplitl [HSI] <;> iassumption
  icases H with %hi
  ipureintro
  exact ⟨funext fun i => hm i (Finset.mem_univ i), funext fun i => hp i (Finset.mem_univ i), funext fun i => hv i (Finset.mem_univ i),
    funext fun i => hi i (Finset.mem_univ i)⟩

/-! ## The program's run -/

/-- What the run ends in: the arguments as they were, the results at the pooled values and the indices, every semaphore zero. -/
def QC : PUnit × MemSt nD τ sig (Elt F) → Prop := fun r =>
  (∀ c : Dev nD, r.2.mem (mixLoc c) = m (mixLoc c) ∧ r.2.mem (panelLoc c) = m (panelLoc c)
    ∧ r.2.mem (valLoc c) = pooled (m (mixLoc c)) (m (panelLoc c)) ∧ r.2.mem (idxLoc c) = chosen (m (mixLoc c)) (m (panelLoc c)))
  ∧ r.2.sem = fun _ => 0

/-- From any memory every run ends, and ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Reference.lean ====
/-
  The run of the reference, a program of StableHLO operations and no kernel. Its operations are listed in order
  (`steps`; those of the outlined `argmax` stand where it is called), and `run_main` says what memory the program
  ends with: the two arguments as they were, the first result the maximum over the third axis of the products
  (`refPooled`), the second the position of that maximum (`refChosen`).
-/
module

public import proofs.«01_k».proof.Proof.Gen.ReferenceIdeal
public import Idealize.ShloMosaic.Lib.StableHlo.Run
public import Idealize.ShloMosaic.Lib.Quiescent

@[expose] public section

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-- The products: the first argument, laid along the second and third axes, times the second. -/
abbrev refProducts (x : FVec F S4x50000 .f32) (p : FVec F S4x3x64x50000 .f32) : FVec F S4x3x64x50000 .f32 :=
  mulf (broadcastInDim S4x3x64x50000 ![0, 1, 2, 3] bcast_S4x1x1x50000_S4x3x64x50000_0_1_2_3
    (broadcastInDim S4x1x1x50000 ![0, 3] bcast_S4x50000_S4x1x1x50000_0_3 x)) p

/-- The maximum of an array over its third axis, from minus infinity. -/
abbrev refMax (z : FVec F S4x3x64x50000 .f32) : FVec F S4x3x50000 .f32 :=
  Host.reduce FloatOps.maximumf z (constant S_ .f32 0xFF800000#32) reducesTo_S4x3x64x50000_S4x3x50000_d2 h_S_

/-- The reference's first result: the maximum of the products, with an axis of one entry put back. -/
abbrev refPooled (x : FVec F S4x50000 .f32) (p : FVec F S4x3x64x50000 .f32) : FVec F S4x3x1x50000 .f32 :=
  broadcastInDim S4x3x1x50000 ![0, 1, 3] bcast_S4x3x50000_S4x3x1x50000_0_1_3 (refMax (refProducts x p))

/-- The maximum of an array over its third axis, and where along that axis it stands. -/
def refPair (z : FVec F S4x3x64x50000 .f32) (j : S4x3x50000.Idx) : F .f32 × BitVec 32 :=
  Host.argReduce (reducer_argmax_f32_i32 (F := F)) z (iotaInDim S4x3x64x50000 32 2) (constant S_ .f32 0xFF800000#32)
    (constantI S_ 32 0#32) reducesTo_S4x3x64x50000_S4x3x50000_d2 h_S_ j

/-- The reference's second result: where along the third axis the maximum of an array stands. -/
abbrev refArg (z : FVec F S4x3x64x50000 .f32) : S4x3x50000.Idx → BitVec 32 := fun j => (refPair z j).2

/-- The operations, in order. -/
abbrev steps : List (HloOp τ sig (Elt F)) :=
  [ unary main_arg0 main_v0 (broadcastInDim S4x1x1x50000 ![0, 3] bcast_S4x50000_S4x1x1x50000_0_3 :
      (⟨S4x50000, .f32⟩ : BufTy).Contents (Elt F) → (⟨S4x1x1x50000, .f32⟩ : BufTy).Contents (Elt F)),
    unary main_v0 main_v1 (broadcastInDim S4x3x64x50000 ![0, 1, 2, 3] bcast_S4x1x1x50000_S4x3x64x50000_0_1_2_3 :
      (⟨S4x1x1x50000, .f32⟩ : BufTy).Contents (Elt F) → (⟨S4x3x64x50000, .f32⟩ : BufTy).Contents (Elt F)),
    binary main_v1 main_arg1 main_v2 (mulf : FVec F S4x3x64x50000 .f32 → FVec F S4x3x64x50000 .f32 → FVec F S4x3x64x50000 .f32),
    nullary main_cst (constant S_ .f32 0xFF800000#32),
    binary main_v2 main_cst main_v3 (fun z v => Host.reduce FloatOps.maximumf z v reducesTo_S4x3x64x50000_S4x3x50000_d2 h_S_),
    nullary main_call0_v0 (iotaInDim S4x3x64x50000 32 2),
    nullary main_call0_cst (constant S_ .f32 0xFF800000#32),
    nullary main_call0_c (constantI S_ 32 0#32),
    quaternary main_v2 main_call0_v0 main_call0_cst main_call0_c main_call0_v1_0
      (fun z i v w j => (Host.argReduce (reducer_argmax_f32_i32 (F := F)) z i v w reducesTo_S4x3x64x50000_S4x3x50000_d2 h_S_ j).1),
    quaternary main_v2 main_call0_v0 main_call0_cst main_call0_c main_v4
      (fun z i v w j => (Host.argReduce (reducer_argmax_f32_i32 (F := F)) z i v w reducesTo_S4x3x64x50000_S4x3x50000_d2 h_S_ j).2),
    unary main_v3 main_v5 (broadcastInDim S4x3x1x50000 ![0, 1, 3] bcast_S4x3x50000_S4x3x1x50000_0_1_3 :
      (⟨S4x3x50000, .f32⟩ : BufTy).Contents (Elt F) → (⟨S4x3x1x50000, .f32⟩ : BufTy).Contents (Elt F)) ]

/-- The program is that list, run in order. -/
theorem main_steps (c : Dev nD) : main (F := F) c = seq steps := rfl

/-- After the operations the first result's buffer holds `refPooled` of the arguments. -/
theorem after_pooled (V : Valuation τ sig (Elt F)) :
    after steps V (main_v5 : DevRef τ sig) = refPooled (V (main_arg0 : DevRef τ sig)) (V (main_arg1 : DevRef τ sig)) := by
  after_results

/-- After the operations the second result's buffer holds `refArg` of the products. -/
theorem after_chosen (V : Valuation τ sig (Elt F)) :
    after steps V (main_v4 : DevRef τ sig)
      = refArg (refProducts (V (main_arg0 : DevRef τ sig)) (V (main_arg1 : DevRef τ sig))) := by
  after_results
  rfl

/-- No operation writes the first argument. -/
theorem after_arg0 (V : Valuation τ sig (Elt F)) : after steps V (main_arg0 : DevRef τ sig) = V (main_arg0 : DevRef τ sig) := by
  after_results

/-- No operation writes the second argument. -/
theorem after_arg1 (V : Valuation τ sig (Elt F)) : after steps V (main_arg1 : DevRef τ sig) = V (main_arg1 : DevRef τ sig) := by
  after_results

/-- No buffer of this program is scoped. -/
theorem no_scoped_buffer : (Finset.univ.filter fun b : Ref sig .tc => b.isScoped) = ∅ := by decide

/-- No semaphore of this program is scoped. -/
theorem no_scoped_sem : (Finset.univ.filter fun s : SemLoc sig => s.isScoped .tc) = ∅ := by decide

/-- Every operation touches only the TensorCore's own buffers. -/
theorem steps_within : (steps (F := F)).Forall fun op => op.bufs ⊆ tcRefs τ sig := by
  simp only [List.forall_cons]
  exact ⟨unary_bufs_sub .., unary_bufs_sub .., binary_bufs_sub .., nullary_bufs_sub .., binary_bufs_sub ..,
    nullary_bufs_sub .., nullary_bufs_sub .., nullary_bufs_sub .., quaternary_bufs_sub .., quaternary_bufs_sub ..,
    unary_bufs_sub .., trivial⟩

/-- From any memory whose counters are zero every run ends, with the results at `refPooled` and `refArg` of the
    arguments, the arguments as they were, and every counter zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_v5)
            = refPooled (m ((c.tc : Thread nD τ).loc main_arg0)) (m ((c.tc : Thread nD τ).loc main_arg1))
          ∧ r.2.mem ((c.tc : Thread nD τ).loc main_v4)
            = refArg (refProducts (m ((c.tc : Thread nD τ).loc main_arg0)) (m ((c.tc : Thread nD τ).loc main_arg1)))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v5).trans (after_pooled _), (h c main_v4).trans (after_chosen _),
      (h c main_arg0).trans (after_arg0 _), (h c main_arg1).trans (after_arg1 _)⟩, sem_eq_zero_of_no_sems rfl r.2⟩)
    (run_seq no_scoped_buffer no_scoped_sem defs main (fun _ => steps) main_steps (fun _ => steps_within) m ρ)

end Cert.Proof.Reference

end
-- ==== Proof.Fold.lean ====
/-
  The reference's two reductions over the third axis, read at the extended reals: each is a left fold over the
  64 entries that share the other three coordinates, in order of the third, and that fold is the running maximum
  (`scanBest`) or the position it was first reached at (`scanIdx`).
-/
module

public import proofs.«01_k».proof.Proof.Scan
public import proofs.«01_k».proof.Proof.Reference
public import Idealize.ShloMosaic.PureOps.Reduce
public import Idealize.ShloMosaic.PureOps.Ideal.Laws
public import Idealize.ShloMosaic.Lib.Pipeline.Value

@[expose] public section

noncomputable section

namespace Cert.Proof.Reference

open Cert.ReferenceIdeal Cert.ReferenceIdeal.Gen
open Idealize.ShloMosaic Idealize.SL.Sem

/-! ## A reduction whose entries are listed

`h` reduces shape `s` to shape `t`, and `e 0, …, e (n - 1)` are the indices that reduce to `j`, in row-major order
(`he`). -/

section Listed

variable {s t u : Shape} {axes : List (Fin s.rank)} (h : s.ReducesTo axes t) (hu : 0 < u.numel) (j : t.Idx) {n : ℕ}
  (e : Fin n → s.Idx)
  (he : ((List.finRange s.numel).filter fun i => h.drop (s.rowMajor.symm i) = j) = (List.finRange n).map fun k => s.rowMajor (e k))

include he

/-- A left fold over the positions that reduce to `j` is a left fold over `0, …, n - 1`. -/
theorem foldl_positions {β : Type} (g : β → s.Idx → β) (q : β → ℕ → β) (hq : ∀ b (k : Fin n), g b (e k) = q b k.val) (b : β) :
    ((List.finRange s.numel).filter fun i => h.drop (s.rowMajor.symm i) = j).foldl
      (fun b i => g b (s.rowMajor.symm i)) b = (List.range n).foldl q b := by
  rw [he, List.foldl_map, ← List.map_coe_finRange_eq_range, List.foldl_map]
  simp only [Equiv.symm_apply_apply, hq]

/-- A reduction of one operand at `j`, as a left fold over `0, …, n - 1`. -/
theorem reduce_listed {α : Type} (f : α → α → α) (x : s.Idx → α) (init : u.Idx → α) (p : ℕ → α)
    (hp : ∀ k : Fin n, x (e k) = p k.val) :
    Host.reduce f x init h hu j = (List.range n).foldl (fun b k => f b (p k)) (init (Shape.Idx.first hu)) := by
  rw [Host.reduce_eq_foldl, List.filter_map, List.foldl_map]
  exact foldl_positions h j e he (fun b i => f b (x i)) (fun b k => f b (p k)) (fun b k => congrArg (f b) (hp k)) _

/-- A reduction of values with their positions at `j`, at the extended reals, as a left fold over `0, …, n - 1`. -/
theorem argReduce_listed {β : Type} (f : Ideal .f32 × β → Ideal .f32 × β → Ideal .f32 × β) (x : FVec Ideal s .f32)
    (y : s.Idx → β) (ix : u.Idx → Ideal .f32) (iy : u.Idx → β) (p : ℕ → Ideal .f32) (c : ℕ → β)
    (hp : ∀ k : Fin n, x (e k) = p k.val) (hc : ∀ k : Fin n, y (e k) = c k.val) :
    Host.argReduce f x y ix iy h hu j
      = (List.range n).foldl (fun b k => f b (p k, c k)) (ix (Shape.Idx.first hu), iy (Shape.Idx.first hu)) := by
  rw [Ideal.argReduce_eq_reduce2, Host.reduce2_eq_foldl_fiber, Host.argReduceFiber, List.foldl_map]
  exact foldl_positions h j e he (fun b i => f b (x i, y i)) (fun b k => f b (p k, c k))
    (fun b k => congrArg (f b) (Prod.ext (hp k) (hc k))) _

end Listed

/-! ## The entries of the reference's reductions -/

/-- The index whose third coordinate is `k` and whose others are `b`, `a` and `l`. -/
abbrev along (b : Fin 4) (a : Fin 3) (l : Fin 50000) (k : Fin 64) : S4x3x64x50000.Idx := ix4 b a k l

/-- An index reduces to `(b, a, l)` exactly when it is `along b a l` at its third coordinate. -/
theorem drop_eq_iff (h : S4x3x64x50000.ReducesTo [2] S4x3x50000) (i : S4x3x64x50000.Idx) (b : Fin 4) (a : Fin 3) (l : Fin 50000) :
    h.drop i = ix3 b a l ↔ along b a l (i 2) = i := by
  have h0 := h.drop_apply_val_of_eq i 0 0
  have h1 := h.drop_apply_val_of_eq i 1 1
  have h2 := h.drop_apply_val_of_eq i 2 3
  constructor
  · intro e
    rw [e] at h0 h1 h2
    funext c
    match c with
    | 0 => exact Fin.ext h0
    | 1 => exact Fin.ext h1
    | 2 => rfl
    | 3 => exact Fin.ext h2
  · intro e
    funext c
    match c with
    | 0 => exact Fin.ext (h0.trans (congrArg (fun i : S4x3x64x50000.Idx => (i 0).val) e).symm)
    | 1 => exact Fin.ext (h1.trans (congrArg (fun i : S4x3x64x50000.Idx => (i 1).val) e).symm)
    | 2 => exact Fin.ext (h2.trans (congrArg (fun i : S4x3x64x50000.Idx => (i 3).val) e).symm)

/-- The row-major position of `along b a l k`. -/
theorem rowMajor_along (b : Fin 4) (a : Fin 3) (l : Fin 50000) (k : Fin 64) :
    (S4x3x64x50000.rowMajor (along b a l k)).val = ((b.val * 3 + a.val) * 64 + k.val) * 50000 + l.val :=
  Shape.rowMajor_val_four (d := ![4, 3, 64, 50000]) (along b a l k)

/-- The row-major positions that reduce to `(b, a, l)`, in order, are those of `along b a l 0, …, along b a l 63`. -/
theorem positions_eq (h : S4x3x64x50000.ReducesTo [2] S4x3x50000) (b : Fin 4) (a : Fin 3) (l : Fin 50000) :
    ((List.finRange S4x3x64x50000.numel).filter fun n => h.drop (S4x3x64x50000.rowMajor.symm n) = ix3 b a l)
      = (List.finRange 64).map fun k => S4x3x64x50000.rowMajor (along b a l k) := by
  refine List.Pairwise.eq_of_mem_iff (r := (· < ·)) ((List.pairwise_lt_finRange _).filter _)
    (List.pairwise_map.mpr ((List.pairwise_lt_finRange 64).imp fun {k k'} hk => ?_)) fun n => ?_
  · have hv : k.val < k'.val := hk
    show (S4x3x64x50000.rowMajor (along b a l k)).val < (S4x3x64x50000.rowMajor (along b a l k')).val
    rw [rowMajor_along, rowMajor_along]
    omega
  · simp only [List.mem_filter, List.mem_map, List.mem_finRange, true_and, decide_eq_true_eq, drop_eq_iff]
    constructor
    · intro e
      exact ⟨_, (congrArg S4x3x64x50000.rowMajor e).trans (Equiv.apply_symm_apply _ n)⟩
    · rintro ⟨k, rfl⟩
      rw [Equiv.symm_apply_apply]; rfl

/-! ## The fold of the comparisons -/

section Scan

variable (p : ℕ → Ideal .f32)

/-- The order's `>`, as the comparison gives it. -/
theorem ogt_eq (a b : Ideal .f32) : FloatOps.cmpf .ogt a b = BitVec.ofBool (decide ((b : EReal) < a)) := rfl

/-- One step of the running maximum is the maximum with the next entry. -/
theorem scanBest_succ (n : ℕ) : scanBest p (n + 1) = FloatOps.maximumf (scanBest p n) (p (n + 1)) := by
  show Scalar.select (FloatOps.cmpf .ogt (p (n + 1)) (scanBest p n)) (p (n + 1)) (scanBest p n)
    = (max (scanBest p n : EReal) (p (n + 1)) : EReal)
  rw [ogt_eq]
  by_cases hlt : (scanBest p n : EReal) < p (n + 1)
  · rw [decide_eq_true hlt, max_eq_right hlt.le]; rfl
  · rw [decide_eq_false hlt, max_eq_left (not_lt.mp hlt)]; rfl

/-- The position the running maximum was reached at is one of those passed. -/
theorem scanIdx_le (n : ℕ) (hn : n < 64) : (scanIdx p n).toNat ≤ n := by
  induction n with
  | zero => exact le_rfl
  | succ n ih =>
    show (Scalar.select _ (BitVec.ofNat 32 (n + 1)) (scanIdx p n)).toNat ≤ n + 1
    unfold Scalar.select
    split
    · rw [BitVec.toNat_ofNat]; exact Nat.mod_le _ _
    · exact (ih (by omega)).trans (Nat.le_succ n)

/-- The maximum's fold from minus infinity is the running maximum. -/
theorem foldl_max (n : ℕ) :
    (List.range (n + 1)).foldl (fun b k => FloatOps.maximumf b (p k)) (FloatOps.ofBits .f32 0xFF800000#32) = scanBest p n := by
  induction n with
  | zero =>
    show (max (Ideal.ofBits .f32 0xFF800000#32 : EReal) (p 0) : EReal) = p 0
    have hbot : (Ideal.ofBits .f32 0xFF800000#32 : EReal) = ⊥ := by simp [Ideal.ofBits, Ideal.ieee]
    rw [hbot]; exact max_eq_right bot_le
  | succ n ih => rw [List.range_succ, List.foldl_concat, ih, scanBest_succ]

/-- The comparison of two pairs at the extended reals: the first is kept when its value is the greater, the second
    when its own is; at equal values the first is kept when its position is the smaller. -/
theorem reducer_gt (a b : Ideal .f32 × BitVec 32) (h : (b.1 : EReal) < a.1) : reducer_argmax_f32_i32 a b = a := by
  have hor : ∀ c : BitVec 1, 1#1 ||| c = 1#1 := by decide
  unfold reducer_argmax_f32_i32
  simp [Ideal.cmpf_def, Ideal.cmp, IntOp.ori, IntOp.andi, Scalar.select, h, hor]

@[inherit_doc reducer_gt]
theorem reducer_lt (a b : Ideal .f32 × BitVec 32) (h : (a.1 : EReal) < b.1) : reducer_argmax_f32_i32 a b = b := by
  unfold reducer_argmax_f32_i32
  simp [Ideal.cmpf_def, Ideal.cmp, IntOp.ori, IntOp.andi, Scalar.select, h.le.not_gt, h.ne]

@[inherit_doc reducer_gt]
theorem reducer_eq (a b : Ideal .f32 × BitVec 32) (h : (a.1 : EReal) = b.1) (hi : a.2.slt b.2 = true) :
    reducer_argmax_f32_i32 a b = a := by
  unfold reducer_argmax_f32_i32
  simp [Ideal.cmpf_def, Ideal.cmp, IntOp.ori, IntOp.andi, IntOp.cmpi, Scalar.select, h, hi]
  exact Prod.ext h.symm rfl

/-- The pairs' fold from minus infinity at position zero is the running maximum and the position it was first
    reached at. -/
theorem foldl_argmax (n : ℕ) (hn : n < 64) :
    (List.range (n + 1)).foldl (fun b k => reducer_argmax_f32_i32 b (p k, BitVec.ofNat 32 k))
      ((FloatOps.ofBits .f32 0xFF800000#32, 0#32) : Ideal .f32 × BitVec 32) = (scanBest p n, scanIdx p n) := by
  induction n with
  | zero =>
    show reducer_argmax_f32_i32 ((FloatOps.ofBits .f32 0xFF800000#32, 0#32) : Ideal .f32 × BitVec 32) (p 0, 0#32) = (p 0, 0#32)
    have hbot : (Ideal.ofBits .f32 0xFF800000#32 : EReal) = ⊥ := by simp [Ideal.ofBits, Ideal.ieee]
    rcases (bot_le : (⊥ : EReal) ≤ p 0).lt_or_eq with h | h
    · exact reducer_lt _ _ (hbot.trans_lt h)
    · unfold reducer_argmax_f32_i32
      have hp : (FloatOps.ofBits .f32 0xFF800000#32 : Ideal .f32) = p 0 := hbot.trans h
      rw [hp]
      simp [Scalar.select]
  | succ n ih =>
    rw [List.range_succ, List.foldl_concat, ih (by omega)]
    have hidx : scanIdx p (n + 1)
      = Scalar.select (FloatOps.cmpf .ogt (p (n + 1)) (scanBest p n)) (BitVec.ofNat 32 (n + 1)) (scanIdx p n) := rfl
    have hbest : scanBest p (n + 1)
      = Scalar.select (FloatOps.cmpf .ogt (p (n + 1)) (scanBest p n)) (p (n + 1)) (scanBest p n) := rfl
    rw [hidx, hbest, ogt_eq]
    rcases lt_trichotomy (scanBest p n : EReal) (p (n + 1)) with h | h | h
    · rw [decide_eq_true h]; exact reducer_lt _ _ h
    · rw [decide_eq_false h.not_lt]
      refine reducer_eq _ _ h ?_
      have hle := scanIdx_le p n (by omega)
      have hnext : (BitVec.ofNat 32 (n + 1)).toNat = n + 1 := by rw [BitVec.toNat_ofNat]; exact Nat.mod_eq_of_lt (by omega)
      show (scanIdx p n).slt (BitVec.ofNat 32 (n + 1)) = true
      rw [BitVec.slt_eq_decide, decide_eq_true_eq, BitVec.toInt_eq_toNat_of_lt (by omega),
        BitVec.toInt_eq_toNat_of_lt (by omega), hnext]
      omega
    · rw [decide_eq_false h.not_gt]; exact reducer_gt _ _ h

end Scan

/-! ## The results -/

section Results

variable (x : FVec Ideal S4x50000 .f32) (q : FVec Ideal S4x3x64x50000 .f32) (b : Fin 4) (a : Fin 3) (l : Fin 50000)

/-- The first argument laid along the second and third axes, at an index. -/
theorem spread_along (k : Fin 64) :
    broadcastInDim S4x3x64x50000 ![0, 1, 2, 3] bcast_S4x1x1x50000_S4x3x64x50000_0_1_2_3
      (broadcastInDim S4x1x1x50000 ![0, 3] bcast_S4x50000_S4x1x1x50000_0_3 x) (along b a l k) = x (ix2 b l) :=
  (broadcastInDim_apply _ _ _ (along b a l k) (ix4 b (0 : Fin 1) (0 : Fin 1) l) (fun c => match c with
    | ⟨0, _⟩ => rfl | ⟨1, _⟩ => rfl | ⟨2, _⟩ => rfl | ⟨3, _⟩ => rfl)).trans
  (broadcastInDim_apply _ _ x (ix4 b (0 : Fin 1) (0 : Fin 1) l) (ix2 b l) (fun c => match c with
    | ⟨0, _⟩ => rfl | ⟨1, _⟩ => rfl))

/-- An entry of the reference's products is a product of the scan's. -/
theorem refProducts_along (k : Fin 64) : refProducts x q (along b a l k) = products x q b a l k.val := by
  have hk : (⟨k.val % 64, Nat.mod_lt _ (by decide)⟩ : Fin 64) = k := Fin.ext (Nat.mod_eq_of_lt k.isLt)
  unfold products
  rw [hk]
  exact congrArg (fun v => FloatOps.mulf v (q (along b a l k))) (spread_along x b a l k)

/-- The reference's maximum at `(b, a, l)` is the running maximum over the 64 rows. -/
theorem refMax_eq : refMax (refProducts x q) (ix3 b a l) = scanBest (products x q b a l) 63 :=
  (reduce_listed reducesTo_S4x3x64x50000_S4x3x50000_d2 h_S_ (ix3 b a l) (along b a l) (positions_eq _ b a l)
    FloatOps.maximumf (refProducts x q) (constant S_ .f32 0xFF800000#32) (products x q b a l) (refProducts_along x q b a l)).trans
    (foldl_max (products x q b a l) 63)

/-- The pair the reference's second reduction gives at `(b, a, l)`. -/
theorem refPair_eq :
    refPair (refProducts x q) (ix3 b a l) = (scanBest (products x q b a l) 63, scanIdx (products x q b a l) 63) :=
  (argReduce_listed reducesTo_S4x3x64x50000_S4x3x50000_d2 h_S_ (ix3 b a l) (along b a l) (positions_eq _ b a l)
    reducer_argmax_f32_i32 (refProducts x q) (iotaInDim S4x3x64x50000 32 2) (constant S_ .f32 0xFF800000#32) (constantI S_ 32 0#32)
    (products x q b a l) (fun k => BitVec.ofNat 32 k) (refProducts_along x q b a l) (fun _ => rfl)).trans
    (foldl_argmax (products x q b a l) 63 (by decide))

/-- The reference's first result is the pooled values. -/
theorem refPooled_eq : refPooled x q = pooled x q := by
  funext y
  exact (broadcastInDim_apply _ _ (refMax (refProducts x q)) y (ix3 (n0 := 4) (n1 := 3) (n2 := 50000) (y 0) (y 1) (y 3))
    (fun c => match c with
    | ⟨0, _⟩ => rfl | ⟨1, _⟩ => rfl | ⟨2, _⟩ => rfl)).trans (refMax_eq x q (y 0) (y 1) (y 3))

/-- The position where the running maximum was first reached, at an index written by its coordinates. -/
theorem chosen_at : chosen x q (ix3 b a l) = scanIdx (products x q b a l) 63 := rfl

/-- The reference's second result is the rows first reaching the maximum. -/
theorem refArg_eq : refArg (refProducts x q) = chosen x q := by
  unfold refArg
  funext j
  obtain ⟨b, a, l, rfl⟩ : ∃ (b : Fin 4) (a : Fin 3) (l : Fin 50000), j = ix3 b a l := ⟨_, _, _, eq_ix3 j⟩
  rw [refPair_eq, chosen_at]

end Results

end Cert.Proof.Reference

end
-- ==== Proof.lean ====
/-
  The certificate's claims, proved: the kernel as printed, the kernel at the extended reals and the reference each run
  to their end from any memory, leave the arguments as they were and every semaphore at zero; and at the extended
  reals the kernel and the reference end with the same two results. Each run is proved in its own module; here they
  are put together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Kernel.Launch
public import proofs.«01_k».proof.Proof.KernelIdeal.Launch
public import proofs.«01_k».proof.Proof.Fold
public import Idealize.ShloMosaic.Adequacy
public import Idealize.ShloMosaic.Init

@[expose] public section

noncomputable section

namespace Cert.Proof

open Idealize.ShloMosaic Idealize.SL.Sem

/-- The kernel as printed runs, leaves its arguments, and leaves every semaphore at zero. -/
theorem kernel_quiescent : Cert.quiescent_Kernel (hKernel := Cert.Kernel.Gen.facts) := fun m ρ _ =>
  (θ_run Cert.Kernel.defs _ _).mono (fun _ h => ⟨fun c => ⟨(h.1 c).1, (h.1 c).2.1⟩, h.2⟩) (Kernel.run_main (F := Bits) m ρ)

/-- The same of the kernel at the extended reals. -/
theorem kernelIdeal_quiescent : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (KernelIdeal.run_main (F := Ideal) m ρ)

/-- The same of the reference. -/
theorem reference_quiescent : Cert.quiescent_ReferenceIdeal (hReferenceIdeal := Cert.ReferenceIdeal.Gen.facts) := fun m ρ _ =>
  (θ_run Cert.ReferenceIdeal.defs _ _).mono (fun _ h => ⟨fun c => (h.1 c).2.2, h.2⟩) (Reference.run_main (F := Ideal) m ρ)

/-- From memories that agree on the arguments, the kernel and the reference end with the same pooled values and the
    same indices, at the extended reals. -/
theorem results_equal : Cert.algebraic_KernelIdeal_ReferenceIdeal
    (hKernelIdeal := Cert.KernelIdeal.Gen.facts) (hReferenceIdeal := Cert.ReferenceIdeal.Gen.facts) := by
  intro m g m' g' _ hargs
  refine ⟨fun c => pooled (F := Ideal) (m (KernelIdeal.mixLoc c)) (m (KernelIdeal.panelLoc c)),
    fun c => chosen (F := Ideal) (m (KernelIdeal.mixLoc c)) (m (KernelIdeal.panelLoc c)),
    (θ_run Cert.KernelIdeal.defs _ _).mono
      (fun _ h c => ⟨(h.1 c).2.2.1, (h.1 c).2.2.2, (h.1 c).1, (h.1 c).2.1⟩) (KernelIdeal.run_main (F := Ideal) m g),
    (θ_run Cert.ReferenceIdeal.defs _ _).mono (fun r h c => ?_) (Reference.run_main (F := Ideal) m' g')⟩
  obtain ⟨hv, hi, hkept⟩ := h.1 c
  rw [Reference.refPooled_eq, (hargs c).1, (hargs c).2] at hv
  rw [Reference.refArg_eq, (hargs c).1, (hargs c).2] at hi
  exact ⟨hv, hi, hkept⟩

/-- Everything the certificate claims. -/
theorem claim : Cert.Claim :=
  ⟨Cert.Kernel.Gen.facts, Cert.KernelIdeal.Gen.facts, Cert.ReferenceIdeal.Gen.facts,
    kernel_quiescent, kernelIdeal_quiescent, reference_quiescent, trivial, results_equal⟩

end Cert.Proof

end
